-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v464) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x8192 : Shape := ⟨2, ![1024, 8192]⟩
abbrev S8192x64 : Shape := ⟨2, ![8192, 64]⟩
abbrev S4x2x1024x8192 : Shape := ⟨4, ![4, 2, 1024, 8192]⟩
abbrev S1024x4 : Shape := ⟨2, ![1024, 4]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4x2x1024x8192 : S_.BroadcastsInDim S4x2x1024x8192 (![] : Fin 0 → Fin S4x2x1024x8192.rank)
  reducesTo_S4x2x1024x8192_S_d0_1_2_3 : S4x2x1024x8192.ReducesTo [0, 1, 2, 3] S_

variable [Facts]

def fn {F : FTy → Type} [FloatOps F] (main_arg0 : FVec F S1024x8192 .f32) (main_arg1 : FVec F S8192x64 .f32) (main_arg2 : FVec F S4x2x1024x8192 .f32) (main_arg3 : FVec F S1024x4 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4x2x1024x8192 .f32 := Host.absf main_arg2
  let main_cst_2 : FVec F S_ .f32 := constant S_ .f32 0x7F800000#32
  let main_v10 : FVec F S4x2x1024x8192 .f32 := broadcastInDim S4x2x1024x8192 ![] bcast_S_S4x2x1024x8192 main_cst_2
  let main_v11 : IVec S4x2x1024x8192 1 := cmpf .olt main_v9 main_v10
  let main_c_3 : IVec S_ 1 := constantI S_ 1 1#1
  let main_v12 : IVec S_ 1 := (fun x v => Host.reduce IntOp.andi x v reducesTo_S4x2x1024x8192_S_d0_1_2_3 h_S_) main_v11 main_c_3
  let main_v13 : IVec S_ 1 := andi main_v8 main_v12
  main_v13
-- ==== Kernel.lean ====
abbrev S1024x8192 : Shape := ⟨2, ![1024, 8192]⟩
abbrev S8192x64 : Shape := ⟨2, ![8192, 64]⟩
abbrev S4x2x1024x8192 : Shape := ⟨4, ![4, 2, 1024, 8192]⟩
abbrev S1024x4 : Shape := ⟨2, ![1024, 4]⟩
abbrev S1024x512 : Shape := ⟨2, ![1024, 512]⟩
abbrev S1x2x1024x512 : Shape := ⟨4, ![1, 2, 1024, 512]⟩
abbrev S1024x64 : Shape := ⟨2, ![1024, 64]⟩
abbrev S1024x1 : Shape := ⟨2, ![1024, 1]⟩
abbrev S1024x2 : Shape := ⟨2, ![1024, 2]⟩
abbrev S512x64 : Shape := ⟨2, ![512, 64]⟩
abbrev S1024 : Shape := ⟨1, ![1024]⟩
abbrev S1x1x1024x512 : Shape := ⟨4, ![1, 1, 1024, 512]⟩

abbrev nBuf : Space → Nat
  | .hbm => 5
  | .vmem => 21
  | .smem => 0
  | _ => 0

abbrev bufTy : (tb : Table) → Fin (tcTables nBuf tb) → BufTy
  | .hbm, ⟨0, _⟩ => ⟨S1024x8192, .f32⟩
  | .hbm, ⟨1, _⟩ => ⟨S8192x64, .f32⟩
  | .hbm, ⟨2, _⟩ => ⟨S4x2x1024x8192, .f32⟩
  | .hbm, ⟨3, _⟩ => ⟨S1024x4, .f32⟩
  | .hbm, ⟨4, _⟩ => ⟨S1024x8192, .f32⟩
  | .local _ .vmem, ⟨0, _⟩ => ⟨S1024x512, .f32⟩
  | .local _ .vmem, ⟨1, _⟩ => ⟨S1024x512, .f32⟩
  | .local _ .vmem, ⟨2, _⟩ => ⟨S8192x64, .f32⟩
  | .local _ .vmem, ⟨3, _⟩ => ⟨S1x2x1024x512, .f32⟩
  | .local _ .vmem, ⟨4, _⟩ => ⟨S1x2x1024x512, .f32⟩
  | .local _ .vmem, ⟨5, _⟩ => ⟨S1024x4, .f32⟩
  | .local _ .vmem, ⟨6, _⟩ => ⟨S1024x512, .f32⟩
  | .local _ .vmem, ⟨7, _⟩ => ⟨S1024x512, .f32⟩
  | .local _ .vmem, ⟨8, _⟩ => ⟨S1024x8192, .f32⟩
  | .local _ .vmem, ⟨9, _⟩ => ⟨S1024x64, .f32⟩
  | .local _ .vmem, ⟨10, _⟩ => ⟨S1024x64, .f32⟩
  | .local _ .vmem, ⟨11, _⟩ => ⟨S1024x1, .f32⟩
  | .local _ .vmem, ⟨12, _⟩ => ⟨S1024x1, .f32⟩
  | .local _ .vmem, ⟨13, _⟩ => ⟨S1024x2, .f32⟩
  | .local _ .vmem, ⟨14, _⟩ => ⟨S1024x2, .f32⟩
  | .local _ .vmem, ⟨15, _⟩ => ⟨S1024x2, .f32⟩
  | .local _ .vmem, ⟨16, _⟩ => ⟨S1024x2, .i32⟩
  | .local _ .vmem, ⟨17, _⟩ => ⟨S1024x2, .i32⟩
  | .local _ .vmem, ⟨18, _⟩ => ⟨S1024x1, .f32⟩
  | .local _ .vmem, ⟨19, _⟩ => ⟨S1024x2, .f32⟩
  | .local _ .vmem, ⟨20, _⟩ => ⟨S1024x1, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![10, 16], ![false, false]⟩

def k0_cond1 (i : grid0.Coords) : BitVec 1 :=
  let arg0 : BitVec 32 := BitVec.ofNat 32 (i 0).val
  let c0_i32_14 : BitVec 32 := 0#32
  let v33 : BitVec 1 := Scalar.cmpi .eq arg0 c0_i32_14
  let v34 : BitVec 32 := Scalar.extui v33
  let c0_i32_15 : BitVec 32 := 0#32
  let v35 : BitVec 1 := Scalar.cmpi .ne v34 c0_i32_15
  v35

def k0_off1 (i : grid0.Coords) : Fin 2 → Nat :=
  let c0_22 : Index := 0#32
  let arg1 : BitVec 32 := BitVec.ofNat 32 (i 1).val
  let c512_i32 : BitVec 32 := 512#32
  let v0 : BitVec 32 := Scalar.muli arg1 c512_i32
  let v47 : Index := Scalar.indexCast v0
  ![0, v47.toNat]
def k0_off2 (i : grid0.Coords) : Fin 2 → Nat :=
  let arg1 : BitVec 32 := BitVec.ofNat 32 (i 1).val
  let c512_i32 : BitVec 32 := 512#32
  let v0 : BitVec 32 := Scalar.muli arg1 c512_i32
  let v51 : Index := Scalar.indexCast v0
  let c0_23 : Index := 0#32
  ![v51.toNat, 0]
def k0_cond3 (i : grid0.Coords) : BitVec 1 :=
  let arg0 : BitVec 32 := BitVec.ofNat 32 (i 0).val
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi arg0 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c1_i32_4 : BitVec 32 := 1#32
  let v15 : BitVec 1 := Scalar.cmpi .eq v14 c1_i32_4
  let c8_i32 : BitVec 32 := 8#32
  let v16 : BitVec 1 := Scalar.cmpi .slt arg0 c8_i32
  let v17 : BitVec 1 := Scalar.andi v15 v16
  let v36 : BitVec 32 := Scalar.extui v17
  let c0_i32_16 : BitVec 32 := 0#32
  let v37 : BitVec 1 := Scalar.cmpi .ne v36 c0_i32_16
  v37

def k0_off3 (i : grid0.Coords) : Fin 2 → Nat :=
  let c0 : Index := 0#32
  let arg1 : BitVec 32 := BitVec.ofNat 32 (i 1).val
  let c512_i32 : BitVec 32 := 512#32
  let v0 : BitVec 32 := Scalar.muli arg1 c512_i32
  let v46 : Index := Scalar.indexCast v0
  ![0, v46.toNat]
def k0_off4 (i : grid0.Coords) : Fin 2 → Nat :=
  let arg1 : BitVec 32 := BitVec.ofNat 32 (i 1).val
  let c512_i32 : BitVec 32 := 512#32
  let v0 : BitVec 32 := Scalar.muli arg1 c512_i32
  let v73 : Index := Scalar.indexCast v0
  let c0_28 : Index := 0#32
  ![v73.toNat, 0]
def k0_cond5 (i : grid0.Coords) : BitVec 1 :=
  let arg1 : BitVec 32 := BitVec.ofNat 32 (i 1).val
  let c15_i32 : BitVec 32 := 15#32
  let v191 : BitVec 1 := Scalar.cmpi .eq arg1 c15_i32
  let v192 : BitVec 32 := Scalar.extui v191
  let c0_i32_100 : BitVec 32 := 0#32
  let v193 : BitVec 1 := Scalar.cmpi .ne v192 c0_i32_100
  v193

@[reducible] def k0_t1_loop : Scf.Loop 32 :=
  let c0_i32_125 : BitVec 32 := 0#32
  let c16_i32 : BitVec 32 := 16#32
  let v225 : BitVec 32 := Scalar.addi c0_i32_125 c16_i32
  let c1_i32_126 : BitVec 32 := 1#32
  ⟨c0_i32_125, v225, c1_i32_126⟩
def k0_off5 (k0_t1 : Fin k0_t1_loop.trips) : Fin 2 → Nat :=
  let c0_i32_125 : BitVec 32 := 0#32
  let c1_i32_126 : BitVec 32 := 1#32
  let arg20 : BitVec 32 := Scf.iv c0_i32_125 c1_i32_126 k0_t1
  let c512_i32_137 : BitVec 32 := 512#32
  let v251 : BitVec 32 := Scalar.muli arg20 c512_i32_137
  let v252 : Index := Scalar.indexCast v251
  let c0_138 : Index := 0#32
  ![v252.toNat, 0]
def k0_cond6 (i : grid0.Coords) : BitVec 1 :=
  let arg0 : BitVec 32 := BitVec.ofNat 32 (i 0).val
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let c2_i32_12 : BitVec 32 := 2#32
  let v29 : BitVec 1 := Scalar.cmpi .sge arg0 c2_i32_12
  let v30 : BitVec 1 := Scalar.andi v28 v29
  let c8_i32_13 : BitVec 32 := 8#32
  let v31 : BitVec 1 := Scalar.cmpi .sle arg0 c8_i32_13
  let v32 : BitVec 1 := Scalar.andi v30 v31
  let v38 : BitVec 32 := Scalar.extui v32
  let c0_i32_17 : BitVec 32 := 0#32
  let v39 : BitVec 1 := Scalar.cmpi .ne v38 c0_i32_17
  v39

def k0_off6 (i : grid0.Coords) : Fin 2 → Nat :=
  let c0 : Index := 0#32
  let arg1 : BitVec 32 := BitVec.ofNat 32 (i 1).val
  let c512_i32 : BitVec 32 := 512#32
  let v0 : BitVec 32 := Scalar.muli arg1 c512_i32
  let v46 : Index := Scalar.indexCast v0
  ![0, v46.toNat]
def k0_off7 (i : grid0.Coords) : Fin 2 → Nat :=
  let arg1 : BitVec 32 := BitVec.ofNat 32 (i 1).val
  let c512_i32 : BitVec 32 := 512#32
  let v0 : BitVec 32 := Scalar.muli arg1 c512_i32
  let v66 : Index := Scalar.indexCast v0
  let c0_25 : Index := 0#32
  ![v66.toNat, 0]
def k0_cond9 (i : grid0.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_18 : BitVec 32 := 0#32
  let v42 : BitVec 1 := Scalar.cmpi .ne v41 c0_i32_18
  v42

def k0_off8 (i : grid0.Coords) : Fin 2 → Nat :=
  let c0 : Index := 0#32
  let arg1 : BitVec 32 := BitVec.ofNat 32 (i 1).val
  let c512_i32 : BitVec 32 := 512#32
  let v0 : BitVec 32 := Scalar.muli arg1 c512_i32
  let v43 : Index := Scalar.indexCast v0
  ![0, v43.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c3_i32 : BitVec 32 := 3#32
  let v18 : BitVec 32 := Scalar.maxsi c0_i32_5 v17
  let v19 : BitVec 32 := Scalar.minsi c3_i32 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let v30 : BitVec 1 := Scalar.cmpi .eq v29 c1_i32_12
  let c8_i32 : BitVec 32 := 8#32
  let v31 : BitVec 1 := Scalar.cmpi .slt arg0 c8_i32
  let v32 : BitVec 1 := Scalar.andi v30 v31
  let c15_i32 : BitVec 32 := 15#32
  let v33 : BitVec 32 := Scalar.select v32 arg1 c15_i32
  let c0_i32_13 : BitVec 32 := 0#32
  let c0_i32_14 : BitVec 32 := 0#32
  let c0_i32_15 : BitVec 32 := 0#32
  ![v19.toNat, c0_i32_13.toNat, c0_i32_14.toNat, v33.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1024x8192 : Shape := ⟨2, ![1024, 8192]⟩
abbrev S8192x64 : Shape := ⟨2, ![8192, 64]⟩
abbrev S4x2x1024x8192 : Shape := ⟨4, ![4, 2, 1024, 8192]⟩
abbrev S1024x4 : Shape := ⟨2, ![1024, 4]⟩
abbrev S8192 : Shape := ⟨1, ![8192]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1x2x1024x8192 : Shape := ⟨4, ![1, 2, 1024, 8192]⟩
abbrev S2x1024x8192 : Shape := ⟨3, ![2, 1024, 8192]⟩
abbrev S1x1024x8192 : Shape := ⟨3, ![1, 1024, 8192]⟩
abbrev S2x1024 : Shape := ⟨2, ![2, 1024]⟩
abbrev S2x1024x1 : Shape := ⟨3, ![2, 1024, 1]⟩
abbrev S1x1x8192 : Shape := ⟨3, ![1, 1, 8192]⟩

abbrev nBuf : Space → Nat
  | .hbm => 589
  | .vmem => 0
  | .smem => 0
  | _ => 0

abbrev hbmTy0_0 (i : Nat) : BufTy := match i % 128 with
  | 0 => ⟨S1024x8192, .f32⟩
  | 1 => ⟨S8192x64, .f32⟩
  | 2 => ⟨S4x2x1024x8192, .f32⟩
  | 3 => ⟨S1024x4, .f32⟩
  | 4 => ⟨S8192, .i32⟩
  | 5 => ⟨S1024x64, .f32⟩
  | 6 => ⟨S1024x64, .f32⟩
  | 7 => ⟨S_, .f32⟩
  | 8 => ⟨S1024x64, .f32⟩
  | 9 => ⟨S1024x64, .f32⟩
  | 10 => ⟨S_, .f32⟩
  | 11 => ⟨S1024, .f32⟩
  | 12 => ⟨S_, .f32⟩
  | 13 => ⟨S_, .f32⟩
  | 14 => ⟨S_, .f32⟩
  | 15 => ⟨S1024, .f32⟩
  | 16 => ⟨S1024x64, .f32⟩
  | 17 => ⟨S1024x64, .f32⟩
  | 18 => ⟨S1024x8192, .f32⟩
  | 19 => ⟨S_, .f32⟩
  | 20 => ⟨S1024x8192, .f32⟩
  | 21 => ⟨S1024x8192, .f32⟩
  | 22 => ⟨S_, .f32⟩
  | 23 => ⟨S1024x8192, .f32⟩
  | 24 => ⟨S1024x8192, .f32⟩
  | 25 => ⟨S1024x8192, .f32⟩
  | 26 => ⟨S1024x8192, .f32⟩
  | 27 => ⟨S_, .f32⟩
  | 28 => ⟨S1024, .f32⟩
  | 29 => ⟨S1024x1, .f32⟩
  | 30 => ⟨S1024x8192, .f32⟩
  | 31 => ⟨S1024x8192, .f32⟩
  | 32 => ⟨S1024x8192, .f32⟩
  | 33 => ⟨S_, .f32⟩
  | 34 => ⟨S1024, .f32⟩
  | 35 => ⟨S1024x1, .f32⟩
  | 36 => ⟨S1024x1, .f32⟩
  | 37 => ⟨S1024x8192, .f32⟩
  | 38 => ⟨S1024x8192, .f32⟩
  | 39 => ⟨S1x2x1024x8192, .f32⟩
  | 40 => ⟨S2x1024x8192, .f32⟩
  | 41 => ⟨S1x1024x8192, .f32⟩
  | 42 => ⟨S2x1024x8192, .f32⟩
  | 43 => ⟨S2x1024x8192, .f32⟩
  | 44 => ⟨S_, .f32⟩
  | 45 => ⟨S2x1024, .f32⟩
  | 46 => ⟨S2x1024x1, .f32⟩
  | 47 => ⟨S2x1024x8192, .f32⟩
  | 48 => ⟨S2x1024x8192, .i1⟩
  | 49 => ⟨S2x1024x8192, .i32⟩
  | 50 => ⟨S_, .i32⟩
  | 51 => ⟨S2x1024x8192, .i32⟩
  | 52 => ⟨S2x1024x8192, .i32⟩
  | 53 => ⟨S_, .i32⟩
  | 54 => ⟨S2x1024, .i32⟩
  | 55 => ⟨S2x1024x1, .i32⟩
  | 56 => ⟨S1x1x8192, .i32⟩
  | 57 => ⟨S2x1024x8192, .i32⟩
  | 58 => ⟨S2x1024x8192, .i32⟩
  | 59 => ⟨S2x1024x8192, .i1⟩
  | 60 => ⟨S2x1024x8192, .f32⟩
  | 61 => ⟨S1x1024x8192, .f32⟩
  | 62 => ⟨S2x1024x8192, .f32⟩
  | 63 => ⟨S2x1024x8192, .f32⟩
  | 64 => ⟨S_, .f32⟩
  | 65 => ⟨S2x1024, .f32⟩
  | 66 => ⟨S_, .f32⟩
  | 67 => ⟨S1024, .f32⟩
  | 68 => ⟨S_, .f32⟩
  | 69 => ⟨S1024x8192, .f32⟩
  | 70 => ⟨S1024x8192, .i32⟩
  | 71 => ⟨S_, .i32⟩
  | 72 => ⟨S1024x8192, .i32⟩
  | 73 => ⟨S1024x8192, .i32⟩
  | 74 => ⟨S1024x8192, .f32⟩
  | 75 => ⟨S_, .f32⟩
  | 76 => ⟨S1024x8192, .f32⟩
  | 77 => ⟨S1024x8192, .f32⟩
  | 78 => ⟨S1024x8192, .f32⟩
  | 79 => ⟨S_, .f32⟩
  | 80 => ⟨S1024x8192, .f32⟩
  | 81 => ⟨S1024x8192, .f32⟩
  | 82 => ⟨S1024x8192, .f32⟩
  | 83 => ⟨S1024x8192, .f32⟩
  | 84 => ⟨S1024x64, .f32⟩
  | 85 => ⟨S1024x64, .f32⟩
  | 86 => ⟨S_, .f32⟩
  | 87 => ⟨S1024x64, .f32⟩
  | 88 => ⟨S1024x64, .f32⟩
  | 89 => ⟨S_, .f32⟩
  | 90 => ⟨S1024, .f32⟩
  | 91 => ⟨S_, .f32⟩
  | 92 => ⟨S_, .f32⟩
  | 93 => ⟨S_, .f32⟩
  | 94 => ⟨S1024, .f32⟩
  | 95 => ⟨S1024x64, .f32⟩
  | 96 => ⟨S1024x64, .f32⟩
  | 97 => ⟨S1024x8192, .f32⟩
  | 98 => ⟨S_, .f32⟩
  | 99 => ⟨S1024x8192, .f32⟩
  | 100 => ⟨S1024x8192, .f32⟩
  | 101 => ⟨S_, .f32⟩
  | 102 => ⟨S1024x8192, .f32⟩
  | 103 => ⟨S1024x8192, .f32⟩
  | 104 => ⟨S1024x8192, .f32⟩
  | 105 => ⟨S1024x8192, .f32⟩
  | 106 => ⟨S_, .f32⟩
  | 107 => ⟨S1024, .f32⟩
  | 108 => ⟨S1024x1, .f32⟩
  | 109 => ⟨S1024x8192, .f32⟩
  | 110 => ⟨S1024x8192, .f32⟩
  | 111 => ⟨S1024x8192, .f32⟩
  | 112 => ⟨S_, .f32⟩
  | 113 => ⟨S1024, .f32⟩
  | 114 => ⟨S1024x1, .f32⟩
  | 115 => ⟨S1024x1, .f32⟩
  | 116 => ⟨S1024x8192, .f32⟩
  | 117 => ⟨S1024x8192, .f32⟩
  | 118 => ⟨S1x1024x8192, .f32⟩
  | 119 => ⟨S2x1024x8192, .f32⟩
  | 120 => ⟨S2x1024x8192, .f32⟩
  | 121 => ⟨S_, .f32⟩
  | 122 => ⟨S2x1024, .f32⟩
  | 123 => ⟨S_, .f32⟩
  | 124 => ⟨S1024, .f32⟩
  | 125 => ⟨S1024x64, .f32⟩
  | 126 => ⟨S1024x64, .f32⟩
  | 127 => ⟨S_, .f32⟩
  | _ => ⟨S1024x8192, .f32⟩

abbrev hbmTy0_1 (i : Nat) : BufTy := match i % 128 with
  | 0 => ⟨S1024, .f32⟩
  | 1 => ⟨S1024x64, .f32⟩
  | 2 => ⟨S1024x64, .f32⟩
  | 3 => ⟨S_, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024x1, .f32⟩
  | 10 => ⟨S1024, .f32⟩
  | 11 => ⟨S1024, .i1⟩
  | 12 => ⟨S1024, .f32⟩
  | 13 => ⟨S1024x1, .f32⟩
  | 14 => ⟨S1024x8192, .f32⟩
  | 15 => ⟨S1024x8192, .f32⟩
  | 16 => ⟨S1024x1, .f32⟩
  | 17 => ⟨S_, .f32⟩
  | 18 => ⟨S1024x1, .f32⟩
  | 19 => ⟨S1024x1, .f32⟩
  | 20 => ⟨S1024x8192, .f32⟩
  | 21 => ⟨S1024x8192, .f32⟩
  | 22 => ⟨S1024x8192, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S_, .f32⟩
  | 29 => ⟨S1024, .f32⟩
  | 30 => ⟨S_, .f32⟩
  | 31 => ⟨S_, .f32⟩
  | 32 => ⟨S_, .f32⟩
  | 33 => ⟨S1024, .f32⟩
  | 34 => ⟨S1024x64, .f32⟩
  | 35 => ⟨S1024x64, .f32⟩
  | 36 => ⟨S1024x8192, .f32⟩
  | 37 => ⟨S_, .f32⟩
  | 38 => ⟨S1024x8192, .f32⟩
  | 39 => ⟨S1024x8192, .f32⟩
  | 40 => ⟨S_, .f32⟩
  | 41 => ⟨S1024x8192, .f32⟩
  | 42 => ⟨S1024x8192, .f32⟩
  | 43 => ⟨S1024x8192, .f32⟩
  | 44 => ⟨S1024x8192, .f32⟩
  | 45 => ⟨S_, .f32⟩
  | 46 => ⟨S1024, .f32⟩
  | 47 => ⟨S1024x1, .f32⟩
  | 48 => ⟨S1024x8192, .f32⟩
  | 49 => ⟨S1024x8192, .f32⟩
  | 50 => ⟨S1024x8192, .f32⟩
  | 51 => ⟨S_, .f32⟩
  | 52 => ⟨S1024, .f32⟩
  | 53 => ⟨S1024x1, .f32⟩
  | 54 => ⟨S1024x1, .f32⟩
  | 55 => ⟨S1024x8192, .f32⟩
  | 56 => ⟨S1024x8192, .f32⟩
  | 57 => ⟨S1x2x1024x8192, .f32⟩
  | 58 => ⟨S2x1024x8192, .f32⟩
  | 59 => ⟨S1x1024x8192, .f32⟩
  | 60 => ⟨S2x1024x8192, .f32⟩
  | 61 => ⟨S2x1024x8192, .f32⟩
  | 62 => ⟨S_, .f32⟩
  | 63 => ⟨S2x1024, .f32⟩
  | 64 => ⟨S2x1024x1, .f32⟩
  | 65 => ⟨S2x1024x8192, .f32⟩
  | 66 => ⟨S2x1024x8192, .i1⟩
  | 67 => ⟨S2x1024x8192, .i32⟩
  | 68 => ⟨S_, .i32⟩
  | 69 => ⟨S2x1024x8192, .i32⟩
  | 70 => ⟨S2x1024x8192, .i32⟩
  | 71 => ⟨S_, .i32⟩
  | 72 => ⟨S2x1024, .i32⟩
  | 73 => ⟨S2x1024x1, .i32⟩
  | 74 => ⟨S1x1x8192, .i32⟩
  | 75 => ⟨S2x1024x8192, .i32⟩
  | 76 => ⟨S2x1024x8192, .i32⟩
  | 77 => ⟨S2x1024x8192, .i1⟩
  | 78 => ⟨S2x1024x8192, .f32⟩
  | 79 => ⟨S1x1024x8192, .f32⟩
  | 80 => ⟨S2x1024x8192, .f32⟩
  | 81 => ⟨S2x1024x8192, .f32⟩
  | 82 => ⟨S_, .f32⟩
  | 83 => ⟨S2x1024, .f32⟩
  | 84 => ⟨S_, .f32⟩
  | 85 => ⟨S1024, .f32⟩
  | 86 => ⟨S_, .f32⟩
  | 87 => ⟨S1024x8192, .f32⟩
  | 88 => ⟨S1024x8192, .i32⟩
  | 89 => ⟨S_, .i32⟩
  | 90 => ⟨S1024x8192, .i32⟩
  | 91 => ⟨S1024x8192, .i32⟩
  | 92 => ⟨S1024x8192, .f32⟩
  | 93 => ⟨S_, .f32⟩
  | 94 => ⟨S1024x8192, .f32⟩
  | 95 => ⟨S1024x8192, .f32⟩
  | 96 => ⟨S1024x8192, .f32⟩
  | 97 => ⟨S_, .f32⟩
  | 98 => ⟨S1024x8192, .f32⟩
  | 99 => ⟨S1024x8192, .f32⟩
  | 100 => ⟨S1024x8192, .f32⟩
  | 101 => ⟨S1024x8192, .f32⟩
  | 102 => ⟨S1024x64, .f32⟩
  | 103 => ⟨S1024x64, .f32⟩
  | 104 => ⟨S_, .f32⟩
  | 105 => ⟨S1024x64, .f32⟩
  | 106 => ⟨S1024x64, .f32⟩
  | 107 => ⟨S_, .f32⟩
  | 108 => ⟨S1024, .f32⟩
  | 109 => ⟨S_, .f32⟩
  | 110 => ⟨S_, .f32⟩
  | 111 => ⟨S_, .f32⟩
  | 112 => ⟨S1024, .f32⟩
  | 113 => ⟨S1024x64, .f32⟩
  | 114 => ⟨S1024x64, .f32⟩
  | 115 => ⟨S1024x8192, .f32⟩
  | 116 => ⟨S_, .f32⟩
  | 117 => ⟨S1024x8192, .f32⟩
  | 118 => ⟨S1024x8192, .f32⟩
  | 119 => ⟨S_, .f32⟩
  | 120 => ⟨S1024x8192, .f32⟩
  | 121 => ⟨S1024x8192, .f32⟩
  | 122 => ⟨S1024x8192, .f32⟩
  | 123 => ⟨S1024x8192, .f32⟩
  | 124 => ⟨S_, .f32⟩
  | 125 => ⟨S1024, .f32⟩
  | 126 => ⟨S1024x1, .f32⟩
  | 127 => ⟨S1024x8192, .f32⟩
  | _ => ⟨S1024x8192, .f32⟩

abbrev hbmTy0_2 (i : Nat) : BufTy := match i % 128 with
  | 0 => ⟨S1024x8192, .f32⟩
  | 1 => ⟨S1024x8192, .f32⟩
  | 2 => ⟨S_, .f32⟩
  | 3 => ⟨S1024, .f32⟩
  | 4 => ⟨S1024x1, .f32⟩
  | 5 => ⟨S1024x1, .f32⟩
  | 6 => ⟨S1024x8192, .f32⟩
  | 7 => ⟨S1024x8192, .f32⟩
  | 8 => ⟨S1x1024x8192, .f32⟩
  | 9 => ⟨S2x1024x8192, .f32⟩
  | 10 => ⟨S2x1024x8192, .f32⟩
  | 11 => ⟨S_, .f32⟩
  | 12 => ⟨S2x1024, .f32⟩
  | 13 => ⟨S_, .f32⟩
  | 14 => ⟨S1024, .f32⟩
  | 15 => ⟨S1024x64, .f32⟩
  | 16 => ⟨S1024x64, .f32⟩
  | 17 => ⟨S_, .f32⟩
  | 18 => ⟨S1024, .f32⟩
  | 19 => ⟨S1024x64, .f32⟩
  | 20 => ⟨S1024x64, .f32⟩
  | 21 => ⟨S_, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024x1, .f32⟩
  | 28 => ⟨S1024, .f32⟩
  | 29 => ⟨S1024, .i1⟩
  | 30 => ⟨S1024, .f32⟩
  | 31 => ⟨S1024x1, .f32⟩
  | 32 => ⟨S1024x8192, .f32⟩
  | 33 => ⟨S1024x8192, .f32⟩
  | 34 => ⟨S1024x1, .f32⟩
  | 35 => ⟨S_, .f32⟩
  | 36 => ⟨S1024x1, .f32⟩
  | 37 => ⟨S1024x1, .f32⟩
  | 38 => ⟨S1024x8192, .f32⟩
  | 39 => ⟨S1024x8192, .f32⟩
  | 40 => ⟨S1024x8192, .f32⟩
  | 41 => ⟨S1024x64, .f32⟩
  | 42 => ⟨S1024x64, .f32⟩
  | 43 => ⟨S_, .f32⟩
  | 44 => ⟨S1024x64, .f32⟩
  | 45 => ⟨S1024x64, .f32⟩
  | 46 => ⟨S_, .f32⟩
  | 47 => ⟨S1024, .f32⟩
  | 48 => ⟨S_, .f32⟩
  | 49 => ⟨S_, .f32⟩
  | 50 => ⟨S_, .f32⟩
  | 51 => ⟨S1024, .f32⟩
  | 52 => ⟨S1024x64, .f32⟩
  | 53 => ⟨S1024x64, .f32⟩
  | 54 => ⟨S1024x8192, .f32⟩
  | 55 => ⟨S_, .f32⟩
  | 56 => ⟨S1024x8192, .f32⟩
  | 57 => ⟨S1024x8192, .f32⟩
  | 58 => ⟨S_, .f32⟩
  | 59 => ⟨S1024x8192, .f32⟩
  | 60 => ⟨S1024x8192, .f32⟩
  | 61 => ⟨S1024x8192, .f32⟩
  | 62 => ⟨S1024x8192, .f32⟩
  | 63 => ⟨S_, .f32⟩
  | 64 => ⟨S1024, .f32⟩
  | 65 => ⟨S1024x1, .f32⟩
  | 66 => ⟨S1024x8192, .f32⟩
  | 67 => ⟨S1024x8192, .f32⟩
  | 68 => ⟨S1024x8192, .f32⟩
  | 69 => ⟨S_, .f32⟩
  | 70 => ⟨S1024, .f32⟩
  | 71 => ⟨S1024x1, .f32⟩
  | 72 => ⟨S1024x1, .f32⟩
  | 73 => ⟨S1024x8192, .f32⟩
  | 74 => ⟨S1024x8192, .f32⟩
  | 75 => ⟨S1x2x1024x8192, .f32⟩
  | 76 => ⟨S2x1024x8192, .f32⟩
  | 77 => ⟨S1x1024x8192, .f32⟩
  | 78 => ⟨S2x1024x8192, .f32⟩
  | 79 => ⟨S2x1024x8192, .f32⟩
  | 80 => ⟨S_, .f32⟩
  | 81 => ⟨S2x1024, .f32⟩
  | 82 => ⟨S2x1024x1, .f32⟩
  | 83 => ⟨S2x1024x8192, .f32⟩
  | 84 => ⟨S2x1024x8192, .i1⟩
  | 85 => ⟨S2x1024x8192, .i32⟩
  | 86 => ⟨S_, .i32⟩
  | 87 => ⟨S2x1024x8192, .i32⟩
  | 88 => ⟨S2x1024x8192, .i32⟩
  | 89 => ⟨S_, .i32⟩
  | 90 => ⟨S2x1024, .i32⟩
  | 91 => ⟨S2x1024x1, .i32⟩
  | 92 => ⟨S1x1x8192, .i32⟩
  | 93 => ⟨S2x1024x8192, .i32⟩
  | 94 => ⟨S2x1024x8192, .i32⟩
  | 95 => ⟨S2x1024x8192, .i1⟩
  | 96 => ⟨S2x1024x8192, .f32⟩
  | 97 => ⟨S1x1024x8192, .f32⟩
  | 98 => ⟨S2x1024x8192, .f32⟩
  | 99 => ⟨S2x1024x8192, .f32⟩
  | 100 => ⟨S_, .f32⟩
  | 101 => ⟨S2x1024, .f32⟩
  | 102 => ⟨S_, .f32⟩
  | 103 => ⟨S1024, .f32⟩
  | 104 => ⟨S_, .f32⟩
  | 105 => ⟨S1024x8192, .f32⟩
  | 106 => ⟨S1024x8192, .i32⟩
  | 107 => ⟨S_, .i32⟩
  | 108 => ⟨S1024x8192, .i32⟩
  | 109 => ⟨S1024x8192, .i32⟩
  | 110 => ⟨S1024x8192, .f32⟩
  | 111 => ⟨S_, .f32⟩
  | 112 => ⟨S1024x8192, .f32⟩
  | 113 => ⟨S1024x8192, .f32⟩
  | 114 => ⟨S1024x8192, .f32⟩
  | 115 => ⟨S_, .f32⟩
  | 116 => ⟨S1024x8192, .f32⟩
  | 117 => ⟨S1024x8192, .f32⟩
  | 118 => ⟨S1024x8192, .f32⟩
  | 119 => ⟨S1024x8192, .f32⟩
  | 120 => ⟨S1024x64, .f32⟩
  | 121 => ⟨S1024x64, .f32⟩
  | 122 => ⟨S_, .f32⟩
  | 123 => ⟨S1024x64, .f32⟩
  | 124 => ⟨S1024x64, .f32⟩
  | 125 => ⟨S_, .f32⟩
  | 126 => ⟨S1024, .f32⟩
  | 127 => ⟨S_, .f32⟩
  | _ => ⟨S1024x8192, .f32⟩

abbrev hbmTy0_3 (i : Nat) : BufTy := match i % 128 with
  | 0 => ⟨S_, .f32⟩
  | 1 => ⟨S_, .f32⟩
  | 2 => ⟨S1024, .f32⟩
  | 3 => ⟨S1024x64, .f32⟩
  | 4 => ⟨S1024x64, .f32⟩
  | 5 => ⟨S1024x8192, .f32⟩
  | 6 => ⟨S_, .f32⟩
  | 7 => ⟨S1024x8192, .f32⟩
  | 8 => ⟨S1024x8192, .f32⟩
  | 9 => ⟨S_, .f32⟩
  | 10 => ⟨S1024x8192, .f32⟩
  | 11 => ⟨S1024x8192, .f32⟩
  | 12 => ⟨S1024x8192, .f32⟩
  | 13 => ⟨S1024x8192, .f32⟩
  | 14 => ⟨S_, .f32⟩
  | 15 => ⟨S1024, .f32⟩
  | 16 => ⟨S1024x1, .f32⟩
  | 17 => ⟨S1024x8192, .f32⟩
  | 18 => ⟨S1024x8192, .f32⟩
  | 19 => ⟨S1024x8192, .f32⟩
  | 20 => ⟨S_, .f32⟩
  | 21 => ⟨S1024, .f32⟩
  | 22 => ⟨S1024x1, .f32⟩
  | 23 => ⟨S1024x1, .f32⟩
  | 24 => ⟨S1024x8192, .f32⟩
  | 25 => ⟨S1024x8192, .f32⟩
  | 26 => ⟨S1x1024x8192, .f32⟩
  | 27 => ⟨S2x1024x8192, .f32⟩
  | 28 => ⟨S2x1024x8192, .f32⟩
  | 29 => ⟨S_, .f32⟩
  | 30 => ⟨S2x1024, .f32⟩
  | 31 => ⟨S_, .f32⟩
  | 32 => ⟨S1024, .f32⟩
  | 33 => ⟨S1024x64, .f32⟩
  | 34 => ⟨S1024x64, .f32⟩
  | 35 => ⟨S_, .f32⟩
  | 36 => ⟨S1024, .f32⟩
  | 37 => ⟨S1024x64, .f32⟩
  | 38 => ⟨S1024x64, .f32⟩
  | 39 => ⟨S_, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024x1, .f32⟩
  | 46 => ⟨S1024, .f32⟩
  | 47 => ⟨S1024, .i1⟩
  | 48 => ⟨S1024, .f32⟩
  | 49 => ⟨S1024x1, .f32⟩
  | 50 => ⟨S1024x8192, .f32⟩
  | 51 => ⟨S1024x8192, .f32⟩
  | 52 => ⟨S1024x1, .f32⟩
  | 53 => ⟨S_, .f32⟩
  | 54 => ⟨S1024x1, .f32⟩
  | 55 => ⟨S1024x1, .f32⟩
  | 56 => ⟨S1024x8192, .f32⟩
  | 57 => ⟨S1024x8192, .f32⟩
  | 58 => ⟨S1024x8192, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S_, .f32⟩
  | 65 => ⟨S1024, .f32⟩
  | 66 => ⟨S_, .f32⟩
  | 67 => ⟨S_, .f32⟩
  | 68 => ⟨S_, .f32⟩
  | 69 => ⟨S1024, .f32⟩
  | 70 => ⟨S1024x64, .f32⟩
  | 71 => ⟨S1024x64, .f32⟩
  | 72 => ⟨S1024x8192, .f32⟩
  | 73 => ⟨S_, .f32⟩
  | 74 => ⟨S1024x8192, .f32⟩
  | 75 => ⟨S1024x8192, .f32⟩
  | 76 => ⟨S_, .f32⟩
  | 77 => ⟨S1024x8192, .f32⟩
  | 78 => ⟨S1024x8192, .f32⟩
  | 79 => ⟨S1024x8192, .f32⟩
  | 80 => ⟨S1024x8192, .f32⟩
  | 81 => ⟨S_, .f32⟩
  | 82 => ⟨S1024, .f32⟩
  | 83 => ⟨S1024x1, .f32⟩
  | 84 => ⟨S1024x8192, .f32⟩
  | 85 => ⟨S1024x8192, .f32⟩
  | 86 => ⟨S1024x8192, .f32⟩
  | 87 => ⟨S_, .f32⟩
  | 88 => ⟨S1024, .f32⟩
  | 89 => ⟨S1024x1, .f32⟩
  | 90 => ⟨S1024x1, .f32⟩
  | 91 => ⟨S1024x8192, .f32⟩
  | 92 => ⟨S1024x8192, .f32⟩
  | 93 => ⟨S1x2x1024x8192, .f32⟩
  | 94 => ⟨S2x1024x8192, .f32⟩
  | 95 => ⟨S1x1024x8192, .f32⟩
  | 96 => ⟨S2x1024x8192, .f32⟩
  | 97 => ⟨S2x1024x8192, .f32⟩
  | 98 => ⟨S_, .f32⟩
  | 99 => ⟨S2x1024, .f32⟩
  | 100 => ⟨S2x1024x1, .f32⟩
  | 101 => ⟨S2x1024x8192, .f32⟩
  | 102 => ⟨S2x1024x8192, .i1⟩
  | 103 => ⟨S2x1024x8192, .i32⟩
  | 104 => ⟨S_, .i32⟩
  | 105 => ⟨S2x1024x8192, .i32⟩
  | 106 => ⟨S2x1024x8192, .i32⟩
  | 107 => ⟨S_, .i32⟩
  | 108 => ⟨S2x1024, .i32⟩
  | 109 => ⟨S2x1024x1, .i32⟩
  | 110 => ⟨S1x1x8192, .i32⟩
  | 111 => ⟨S2x1024x8192, .i32⟩
  | 112 => ⟨S2x1024x8192, .i32⟩
  | 113 => ⟨S2x1024x8192, .i1⟩
  | 114 => ⟨S2x1024x8192, .f32⟩
  | 115 => ⟨S1x1024x8192, .f32⟩
  | 116 => ⟨S2x1024x8192, .f32⟩
  | 117 => ⟨S2x1024x8192, .f32⟩
  | 118 => ⟨S_, .f32⟩
  | 119 => ⟨S2x1024, .f32⟩
  | 120 => ⟨S_, .f32⟩
  | 121 => ⟨S1024, .f32⟩
  | 122 => ⟨S_, .f32⟩
  | 123 => ⟨S1024x8192, .f32⟩
  | 124 => ⟨S1024x8192, .i32⟩
  | 125 => ⟨S_, .i32⟩
  | 126 => ⟨S1024x8192, .i32⟩
  | 127 => ⟨S1024x8192, .i32⟩
  | _ => ⟨S1024x8192, .f32⟩

abbrev hbmTy0_4 (i : Nat) : BufTy := match i % 128 with
  | 0 => ⟨S1024x8192, .f32⟩
  | 1 => ⟨S_, .f32⟩
  | 2 => ⟨S1024x8192, .f32⟩
  | 3 => ⟨S1024x8192, .f32⟩
  | 4 => ⟨S1024x8192, .f32⟩
  | 5 => ⟨S_, .f32⟩
  | 6 => ⟨S1024x8192, .f32⟩
  | 7 => ⟨S1024x8192, .f32⟩
  | 8 => ⟨S1024x8192, .f32⟩
  | 9 => ⟨S1024x8192, .f32⟩
  | 10 => ⟨S1024x64, .f32⟩
  | 11 => ⟨S1024x64, .f32⟩
  | 12 => ⟨S_, .f32⟩
  | 13 => ⟨S1024x64, .f32⟩
  | 14 => ⟨S1024x64, .f32⟩
  | 15 => ⟨S_, .f32⟩
  | 16 => ⟨S1024, .f32⟩
  | 17 => ⟨S_, .f32⟩
  | 18 => ⟨S_, .f32⟩
  | 19 => ⟨S_, .f32⟩
  | 20 => ⟨S1024, .f32⟩
  | 21 => ⟨S1024x64, .f32⟩
  | 22 => ⟨S1024x64, .f32⟩
  | 23 => ⟨S1024x8192, .f32⟩
  | 24 => ⟨S_, .f32⟩
  | 25 => ⟨S1024x8192, .f32⟩
  | 26 => ⟨S1024x8192, .f32⟩
  | 27 => ⟨S_, .f32⟩
  | 28 => ⟨S1024x8192, .f32⟩
  | 29 => ⟨S1024x8192, .f32⟩
  | 30 => ⟨S1024x8192, .f32⟩
  | 31 => ⟨S1024x8192, .f32⟩
  | 32 => ⟨S_, .f32⟩
  | 33 => ⟨S1024, .f32⟩
  | 34 => ⟨S1024x1, .f32⟩
  | 35 => ⟨S1024x8192, .f32⟩
  | 36 => ⟨S1024x8192, .f32⟩
  | 37 => ⟨S1024x8192, .f32⟩
  | 38 => ⟨S_, .f32⟩
  | 39 => ⟨S1024, .f32⟩
  | 40 => ⟨S1024x1, .f32⟩
  | 41 => ⟨S1024x1, .f32⟩
  | 42 => ⟨S1024x8192, .f32⟩
  | 43 => ⟨S1024x8192, .f32⟩
  | 44 => ⟨S1x1024x8192, .f32⟩
  | 45 => ⟨S2x1024x8192, .f32⟩
  | 46 => ⟨S2x1024x8192, .f32⟩
  | 47 => ⟨S_, .f32⟩
  | 48 => ⟨S2x1024, .f32⟩
  | 49 => ⟨S_, .f32⟩
  | 50 => ⟨S1024, .f32⟩
  | 51 => ⟨S1024x64, .f32⟩
  | 52 => ⟨S1024x64, .f32⟩
  | 53 => ⟨S_, .f32⟩
  | 54 => ⟨S1024, .f32⟩
  | 55 => ⟨S1024x64, .f32⟩
  | 56 => ⟨S1024x64, .f32⟩
  | 57 => ⟨S_, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024x1, .f32⟩
  | 64 => ⟨S1024, .f32⟩
  | 65 => ⟨S1024, .i1⟩
  | 66 => ⟨S1024, .f32⟩
  | 67 => ⟨S1024x1, .f32⟩
  | 68 => ⟨S1024x8192, .f32⟩
  | 69 => ⟨S1024x8192, .f32⟩
  | 70 => ⟨S1024x1, .f32⟩
  | 71 => ⟨S_, .f32⟩
  | 72 => ⟨S1024x1, .f32⟩
  | 73 => ⟨S1024x1, .f32⟩
  | 74 => ⟨S1024x8192, .f32⟩
  | 75 => ⟨S1024x8192, .f32⟩
  | 76 => ⟨S1024x8192, .f32⟩
  | _ => ⟨S1024x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x8192, .f32⟩

abbrev bufTy : (tb : Table) → Fin (tcTables nBuf tb) → BufTy
  | .hbm, ⟨i, _⟩ => hbmTy i
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_c_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_19 : Ref sig .tc := ⟨.hbm, 98, rfl⟩
abbrev main_v73 : Ref sig .tc := ⟨.hbm, 99, rfl⟩
abbrev main_v74 : Ref sig .tc := ⟨.hbm, 100, rfl⟩
abbrev main_cst_20 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_21 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_22 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_23 : Ref sig .tc := ⟨.hbm, 121, rfl⟩
abbrev main_v92 : Ref sig .tc := ⟨.hbm, 122, rfl⟩
abbrev main_cst_24 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_25 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_26 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_27 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_28 : Ref sig .tc := ⟨.hbm, 153, rfl⟩
abbrev main_v119 : Ref sig .tc := ⟨.hbm, 154, rfl⟩
abbrev main_v120 : Ref sig .tc := ⟨.hbm, 155, rfl⟩
abbrev main_cst_29 : Ref sig .tc := ⟨.hbm, 156, rfl⟩
abbrev main_v121 : Ref sig .tc := ⟨.hbm, 157, rfl⟩
abbrev main_cst_30 : Ref sig .tc := ⟨.hbm, 158, rfl⟩
abbrev main_v122 : Ref sig .tc := ⟨.hbm, 159, rfl⟩
abbrev main_cst_31 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_32 : Ref sig .tc := ⟨.hbm, 165, rfl⟩
abbrev main_v127 : Ref sig .tc := ⟨.hbm, 166, rfl⟩
abbrev main_v128 : Ref sig .tc := ⟨.hbm, 167, rfl⟩
abbrev main_cst_33 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_34 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_35 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_36 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_37 : Ref sig .tc := ⟨.hbm, 196, rfl⟩
abbrev main_v153 : Ref sig .tc := ⟨.hbm, 197, rfl⟩
abbrev main_v154 : Ref sig .tc := ⟨.hbm, 198, rfl⟩
abbrev main_c_38 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_39 : Ref sig .tc := ⟨.hbm, 210, rfl⟩
abbrev main_v165 : Ref sig .tc := ⟨.hbm, 211, rfl⟩
abbrev main_cst_40 : Ref sig .tc := ⟨.hbm, 212, rfl⟩
abbrev main_v166 : Ref sig .tc := ⟨.hbm, 213, rfl⟩
abbrev main_cst_41 : Ref sig .tc := ⟨.hbm, 214, rfl⟩
abbrev main_v167 : Ref sig .tc := ⟨.hbm, 215, rfl⟩
abbrev main_v168 : Ref sig .tc := ⟨.hbm, 216, rfl⟩
abbrev main_c_42 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_cst_43 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_cst_44 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_45 : Ref sig .tc := ⟨.hbm, 232, rfl⟩
abbrev main_v181 : Ref sig .tc := ⟨.hbm, 233, rfl⟩
abbrev main_v182 : Ref sig .tc := ⟨.hbm, 234, rfl⟩
abbrev main_cst_46 : Ref sig .tc := ⟨.hbm, 235, rfl⟩
abbrev main_v183 : Ref sig .tc := ⟨.hbm, 236, rfl⟩
abbrev main_cst_47 : Ref sig .tc := ⟨.hbm, 237, rfl⟩
abbrev main_v184 : Ref sig .tc := ⟨.hbm, 238, rfl⟩
abbrev main_cst_48 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_49 : Ref sig .tc := ⟨.hbm, 244, rfl⟩
abbrev main_v189 : Ref sig .tc := ⟨.hbm, 245, rfl⟩
abbrev main_v190 : Ref sig .tc := ⟨.hbm, 246, rfl⟩
abbrev main_cst_50 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_51 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_52 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_cst_53 : Ref sig .tc := ⟨.hbm, 267, rfl⟩
abbrev main_v208 : Ref sig .tc := ⟨.hbm, 268, rfl⟩
abbrev main_cst_54 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_cst_55 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_cst_56 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_cst_57 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_cst_58 : Ref sig .tc := ⟨.hbm, 299, rfl⟩
abbrev main_v235 : Ref sig .tc := ⟨.hbm, 300, rfl⟩
abbrev main_v236 : Ref sig .tc := ⟨.hbm, 301, rfl⟩
abbrev main_cst_59 : Ref sig .tc := ⟨.hbm, 302, rfl⟩
abbrev main_v237 : Ref sig .tc := ⟨.hbm, 303, rfl⟩
abbrev main_cst_60 : Ref sig .tc := ⟨.hbm, 304, rfl⟩
abbrev main_v238 : Ref sig .tc := ⟨.hbm, 305, rfl⟩
abbrev main_cst_61 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_cst_62 : Ref sig .tc := ⟨.hbm, 311, rfl⟩
abbrev main_v243 : Ref sig .tc := ⟨.hbm, 312, rfl⟩
abbrev main_v244 : Ref sig .tc := ⟨.hbm, 313, rfl⟩
abbrev main_cst_63 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_cst_64 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_cst_65 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_cst_66 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_c_67 : Ref sig .tc := ⟨.hbm, 342, rfl⟩
abbrev main_v269 : Ref sig .tc := ⟨.hbm, 343, rfl⟩
abbrev main_v270 : Ref sig .tc := ⟨.hbm, 344, rfl⟩
abbrev main_c_68 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_cst_69 : Ref sig .tc := ⟨.hbm, 356, rfl⟩
abbrev main_v281 : Ref sig .tc := ⟨.hbm, 357, rfl⟩
abbrev main_cst_70 : Ref sig .tc := ⟨.hbm, 358, rfl⟩
abbrev main_v282 : Ref sig .tc := ⟨.hbm, 359, rfl⟩
abbrev main_cst_71 : Ref sig .tc := ⟨.hbm, 360, rfl⟩
abbrev main_v283 : Ref sig .tc := ⟨.hbm, 361, rfl⟩
abbrev main_v284 : Ref sig .tc := ⟨.hbm, 362, rfl⟩
abbrev main_c_72 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_cst_73 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_cst_74 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_cst_75 : Ref sig .tc := ⟨.hbm, 378, rfl⟩
abbrev main_v297 : Ref sig .tc := ⟨.hbm, 379, rfl⟩
abbrev main_v298 : Ref sig .tc := ⟨.hbm, 380, rfl⟩
abbrev main_cst_76 : Ref sig .tc := ⟨.hbm, 381, rfl⟩
abbrev main_v299 : Ref sig .tc := ⟨.hbm, 382, rfl⟩
abbrev main_cst_77 : Ref sig .tc := ⟨.hbm, 383, rfl⟩
abbrev main_v300 : Ref sig .tc := ⟨.hbm, 384, rfl⟩
abbrev main_cst_78 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_cst_79 : Ref sig .tc := ⟨.hbm, 390, rfl⟩
abbrev main_v305 : Ref sig .tc := ⟨.hbm, 391, rfl⟩
abbrev main_v306 : Ref sig .tc := ⟨.hbm, 392, rfl⟩
abbrev main_cst_80 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_cst_81 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_cst_82 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_cst_83 : Ref sig .tc := ⟨.hbm, 413, rfl⟩
abbrev main_v324 : Ref sig .tc := ⟨.hbm, 414, rfl⟩
abbrev main_cst_84 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_cst_85 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_cst_86 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩
abbrev main_cst_87 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_cst_88 : Ref sig .tc := ⟨.hbm, 445, rfl⟩
abbrev main_v351 : Ref sig .tc := ⟨.hbm, 446, rfl⟩
abbrev main_v352 : Ref sig .tc := ⟨.hbm, 447, rfl⟩
abbrev main_cst_89 : Ref sig .tc := ⟨.hbm, 448, rfl⟩
abbrev main_v353 : Ref sig .tc := ⟨.hbm, 449, rfl⟩
abbrev main_cst_90 : Ref sig .tc := ⟨.hbm, 450, rfl⟩
abbrev main_v354 : Ref sig .tc := ⟨.hbm, 451, rfl⟩
abbrev main_cst_91 : Ref sig .tc := ⟨.hbm, 452, rfl⟩
abbrev main_v355 : Ref sig .tc := ⟨.hbm, 453, rfl⟩
abbrev main_v356 : Ref sig .tc := ⟨.hbm, 454, rfl⟩
abbrev main_v357 : Ref sig .tc := ⟨.hbm, 455, rfl⟩
abbrev main_v358 : Ref sig .tc := ⟨.hbm, 456, rfl⟩
abbrev main_cst_92 : Ref sig .tc := ⟨.hbm, 457, rfl⟩
abbrev main_v359 : Ref sig .tc := ⟨.hbm, 458, rfl⟩
abbrev main_v360 : Ref sig .tc := ⟨.hbm, 459, rfl⟩
abbrev main_cst_93 : Ref sig .tc := ⟨.hbm, 460, rfl⟩
abbrev main_v361 : Ref sig .tc := ⟨.hbm, 461, rfl⟩
abbrev main_v362 : Ref sig .tc := ⟨.hbm, 462, rfl⟩
abbrev main_v363 : Ref sig .tc := ⟨.hbm, 463, rfl⟩
abbrev main_v364 : Ref sig .tc := ⟨.hbm, 464, rfl⟩
abbrev main_cst_94 : Ref sig .tc := ⟨.hbm, 465, rfl⟩
abbrev main_v365 : Ref sig .tc := ⟨.hbm, 466, rfl⟩
abbrev main_v366 : Ref sig .tc := ⟨.hbm, 467, rfl⟩
abbrev main_v367 : Ref sig .tc := ⟨.hbm, 468, rfl⟩
abbrev main_v368 : Ref sig .tc := ⟨.hbm, 469, rfl⟩
abbrev main_v369 : Ref sig .tc := ⟨.hbm, 470, rfl⟩
abbrev main_cst_95 : Ref sig .tc := ⟨.hbm, 471, rfl⟩
abbrev main_v370 : Ref sig .tc := ⟨.hbm, 472, rfl⟩
abbrev main_v371 : Ref sig .tc := ⟨.hbm, 473, rfl⟩
abbrev main_v372 : Ref sig .tc := ⟨.hbm, 474, rfl⟩
abbrev main_v373 : Ref sig .tc := ⟨.hbm, 475, rfl⟩
abbrev main_v374 : Ref sig .tc := ⟨.hbm, 476, rfl⟩
abbrev main_v375 : Ref sig .tc := ⟨.hbm, 477, rfl⟩
abbrev main_v376 : Ref sig .tc := ⟨.hbm, 478, rfl⟩
abbrev main_v377 : Ref sig .tc := ⟨.hbm, 479, rfl⟩
abbrev main_v378 : Ref sig .tc := ⟨.hbm, 480, rfl⟩
abbrev main_v379 : Ref sig .tc := ⟨.hbm, 481, rfl⟩
abbrev main_cst_96 : Ref sig .tc := ⟨.hbm, 482, rfl⟩
abbrev main_v380 : Ref sig .tc := ⟨.hbm, 483, rfl⟩
abbrev main_v381 : Ref sig .tc := ⟨.hbm, 484, rfl⟩
abbrev main_v382 : Ref sig .tc := ⟨.hbm, 485, rfl⟩
abbrev main_v383 : Ref sig .tc := ⟨.hbm, 486, rfl⟩
abbrev main_v384 : Ref sig .tc := ⟨.hbm, 487, rfl⟩
abbrev main_c_97 : Ref sig .tc := ⟨.hbm, 488, rfl⟩
abbrev main_v385 : Ref sig .tc := ⟨.hbm, 489, rfl⟩
abbrev main_v386 : Ref sig .tc := ⟨.hbm, 490, rfl⟩
abbrev main_c_98 : Ref sig .tc := ⟨.hbm, 491, rfl⟩
abbrev main_v387 : Ref sig .tc := ⟨.hbm, 492, rfl⟩
abbrev main_v388 : Ref sig .tc := ⟨.hbm, 493, rfl⟩
abbrev main_v389 : Ref sig .tc := ⟨.hbm, 494, rfl⟩
abbrev main_v390 : Ref sig .tc := ⟨.hbm, 495, rfl⟩
abbrev main_v391 : Ref sig .tc := ⟨.hbm, 496, rfl⟩
abbrev main_v392 : Ref sig .tc := ⟨.hbm, 497, rfl⟩
abbrev main_v393 : Ref sig .tc := ⟨.hbm, 498, rfl⟩
abbrev main_v394 : Ref sig .tc := ⟨.hbm, 499, rfl⟩
abbrev main_v395 : Ref sig .tc := ⟨.hbm, 500, rfl⟩
abbrev main_v396 : Ref sig .tc := ⟨.hbm, 501, rfl⟩
abbrev main_cst_99 : Ref sig .tc := ⟨.hbm, 502, rfl⟩
abbrev main_v397 : Ref sig .tc := ⟨.hbm, 503, rfl⟩
abbrev main_cst_100 : Ref sig .tc := ⟨.hbm, 504, rfl⟩
abbrev main_v398 : Ref sig .tc := ⟨.hbm, 505, rfl⟩
abbrev main_cst_101 : Ref sig .tc := ⟨.hbm, 506, rfl⟩
abbrev main_v399 : Ref sig .tc := ⟨.hbm, 507, rfl⟩
abbrev main_v400 : Ref sig .tc := ⟨.hbm, 508, rfl⟩
abbrev main_c_102 : Ref sig .tc := ⟨.hbm, 509, rfl⟩
abbrev main_v401 : Ref sig .tc := ⟨.hbm, 510, rfl⟩
abbrev main_v402 : Ref sig .tc := ⟨.hbm, 511, rfl⟩
abbrev main_v403 : Ref sig .tc := ⟨.hbm, 512, rfl⟩
abbrev main_cst_103 : Ref sig .tc := ⟨.hbm, 513, rfl⟩
abbrev main_v404 : Ref sig .tc := ⟨.hbm, 514, rfl⟩
abbrev main_v405 : Ref sig .tc := ⟨.hbm, 515, rfl⟩
abbrev main_v406 : Ref sig .tc := ⟨.hbm, 516, rfl⟩
abbrev main_cst_104 : Ref sig .tc := ⟨.hbm, 517, rfl⟩
abbrev main_v407 : Ref sig .tc := ⟨.hbm, 518, rfl⟩
abbrev main_v408 : Ref sig .tc := ⟨.hbm, 519, rfl⟩
abbrev main_v409 : Ref sig .tc := ⟨.hbm, 520, rfl⟩
abbrev main_v410 : Ref sig .tc := ⟨.hbm, 521, rfl⟩
abbrev main_v411 : Ref sig .tc := ⟨.hbm, 522, rfl⟩
abbrev main_v412 : Ref sig .tc := ⟨.hbm, 523, rfl⟩
abbrev main_cst_105 : Ref sig .tc := ⟨.hbm, 524, rfl⟩
abbrev main_v413 : Ref sig .tc := ⟨.hbm, 525, rfl⟩
abbrev main_v414 : Ref sig .tc := ⟨.hbm, 526, rfl⟩
abbrev main_cst_106 : Ref sig .tc := ⟨.hbm, 527, rfl⟩
abbrev main_v415 : Ref sig .tc := ⟨.hbm, 528, rfl⟩
abbrev main_cst_107 : Ref sig .tc := ⟨.hbm, 529, rfl⟩
abbrev main_v416 : Ref sig .tc := ⟨.hbm, 530, rfl⟩
abbrev main_cst_108 : Ref sig .tc := ⟨.hbm, 531, rfl⟩
abbrev main_v417 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_cst_109 : Ref sig .tc := ⟨.hbm, 536, rfl⟩
abbrev main_v421 : Ref sig .tc := ⟨.hbm, 537, rfl⟩
abbrev main_v422 : Ref sig .tc := ⟨.hbm, 538, rfl⟩
abbrev main_cst_110 : Ref sig .tc := ⟨.hbm, 539, rfl⟩
abbrev main_v423 : Ref sig .tc := ⟨.hbm, 540, rfl⟩
abbrev main_v424 : Ref sig .tc := ⟨.hbm, 541, rfl⟩
abbrev main_v425 : Ref sig .tc := ⟨.hbm, 542, rfl⟩
abbrev main_v426 : Ref sig .tc := ⟨.hbm, 543, rfl⟩
abbrev main_cst_111 : Ref sig .tc := ⟨.hbm, 544, rfl⟩
abbrev main_v427 : Ref sig .tc := ⟨.hbm, 545, rfl⟩
abbrev main_v428 : Ref sig .tc := ⟨.hbm, 546, rfl⟩
abbrev main_v429 : Ref sig .tc := ⟨.hbm, 547, rfl⟩
abbrev main_v430 : Ref sig .tc := ⟨.hbm, 548, rfl⟩
abbrev main_v431 : Ref sig .tc := ⟨.hbm, 549, rfl⟩
abbrev main_cst_112 : Ref sig .tc := ⟨.hbm, 550, rfl⟩
abbrev main_v432 : Ref sig .tc := ⟨.hbm, 551, rfl⟩
abbrev main_v433 : Ref sig .tc := ⟨.hbm, 552, rfl⟩
abbrev main_v434 : Ref sig .tc := ⟨.hbm, 553, rfl⟩
abbrev main_v435 : Ref sig .tc := ⟨.hbm, 554, rfl⟩
abbrev main_v436 : Ref sig .tc := ⟨.hbm, 555, rfl⟩
abbrev main_v437 : Ref sig .tc := ⟨.hbm, 556, rfl⟩
abbrev main_v438 : Ref sig .tc := ⟨.hbm, 557, rfl⟩
abbrev main_v439 : Ref sig .tc := ⟨.hbm, 558, rfl⟩
abbrev main_cst_113 : Ref sig .tc := ⟨.hbm, 559, rfl⟩
abbrev main_v440 : Ref sig .tc := ⟨.hbm, 560, rfl⟩
abbrev main_cst_114 : Ref sig .tc := ⟨.hbm, 561, rfl⟩
abbrev main_v441 : Ref sig .tc := ⟨.hbm, 562, rfl⟩
abbrev main_v442 : Ref sig .tc := ⟨.hbm, 563, rfl⟩
abbrev main_v443 : Ref sig .tc := ⟨.hbm, 564, rfl⟩
abbrev main_cst_115 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_cst_116 : Ref sig .tc := ⟨.hbm, 569, rfl⟩
abbrev main_v447 : Ref sig .tc := ⟨.hbm, 570, rfl⟩
abbrev main_v448 : Ref sig .tc := ⟨.hbm, 571, rfl⟩
abbrev main_v449 : Ref sig .tc := ⟨.hbm, 572, rfl⟩
abbrev main_v450 : Ref sig .tc := ⟨.hbm, 573, rfl⟩
abbrev main_v451 : Ref sig .tc := ⟨.hbm, 574, rfl⟩
abbrev main_v452 : Ref sig .tc := ⟨.hbm, 575, rfl⟩
abbrev main_v453 : Ref sig .tc := ⟨.hbm, 576, rfl⟩
abbrev main_v454 : Ref sig .tc := ⟨.hbm, 577, rfl⟩
abbrev main_v455 : Ref sig .tc := ⟨.hbm, 578, rfl⟩
abbrev main_v456 : Ref sig .tc := ⟨.hbm, 579, rfl⟩
abbrev main_v457 : Ref sig .tc := ⟨.hbm, 580, rfl⟩
abbrev main_v458 : Ref sig .tc := ⟨.hbm, 581, rfl⟩
abbrev main_v459 : Ref sig .tc := ⟨.hbm, 582, rfl⟩
abbrev main_cst_117 : Ref sig .tc := ⟨.hbm, 583, rfl⟩
abbrev main_v460 : Ref sig .tc := ⟨.hbm, 584, rfl⟩
abbrev main_v461 : Ref sig .tc := ⟨.hbm, 585, rfl⟩
abbrev main_v462 : Ref sig .tc := ⟨.hbm, 586, rfl⟩
abbrev main_v463 : Ref sig .tc := ⟨.hbm, 587, rfl⟩
abbrev main_v464 : Ref sig .tc := ⟨.hbm, 588, rfl⟩

abbrev nD : Nat := 1
abbrev τ : Topo := Topo.v7x

variable {F : FTy → Type} [FloatOps F]
-- ==== Proof.Chain.lean ====
module

public import Idealize.ShloMosaic.Lib.Pointwise

@[expose] public section

noncomputable section

/-! # One step of the chain, over the reals

A row of the batch is a point `x` of `ℝ^8192`; its energy is `‖x U‖²`. Everything here is about one row. -/

namespace Cert.Chain

open Idealize.ShloMosaic

/-! ## Column blocks -/

/-- Coordinate `c` of column block `k`. -/
def at' (k : Fin 16) (c : Fin 512) : Fin 8192 := ⟨k.val * 512 + c.val, by omega⟩

/-- Every coordinate lies in one block. -/
theorem at'_surj (d : Fin 8192) : ∃ k c, at' k c = d :=
  ⟨⟨d.val / 512, by omega⟩, ⟨d.val % 512, by omega⟩, Fin.ext (by show d.val / 512 * 512 + d.val % 512 = d.val; omega)⟩

/-- The sum of `f` over block `k`. -/
def block (f : Fin 8192 → ℝ) (k : ℕ) : ℝ := if h : k < 16 then ∑ c, f (at' ⟨k, h⟩ c) else 0
/-- The sum of `f` over the first `k` blocks. -/
def below (f : Fin 8192 → ℝ) (k : ℕ) : ℝ := ∑ q ∈ Finset.range k, block f q

theorem below_zero (f : Fin 8192 → ℝ) : below f 0 = 0 := rfl
theorem below_succ (f : Fin 8192 → ℝ) (k : Fin 16) : below f (k.val + 1) = below f k.val + ∑ c, f (at' k c) := by
  unfold below
  rw [Finset.sum_range_succ]
  congr 1
  exact dif_pos k.isLt
theorem below_all (f : Fin 8192 → ℝ) : below f 16 = ∑ d, f d := by
  unfold below
  rw [Finset.sum_range, Fin.sum_univ_tiles 16 512 rfl f]
  exact Finset.sum_congr rfl fun q _ => dif_pos q.isLt

/-! ## Sums, maxima and minima in the extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by
  simp [Ideal.ofBits, Ideal.ieee]

/-- A maximum over a nonempty row from minus infinity is attained. -/
theorem fold_max {n : ℕ} (f : Fin (n + 1) → ℝ) :
    ∃ j, (∀ c, f c ≤ f j) ∧ Finset.univ.fold max (⊥ : EReal) (fun c => (f c : EReal)) = (f j : EReal) := by
  obtain ⟨j, -, hj⟩ := Finset.exists_max_image (Finset.univ : Finset (Fin (n + 1))) f ⟨0, Finset.mem_univ _⟩
  refine ⟨j, fun c => hj c (Finset.mem_univ _), le_antisymm ?_ ?_⟩
  · rw [Finset.fold_max_le]
    exact ⟨bot_le, fun c _ => EReal.coe_le_coe_iff.2 (hj c (Finset.mem_univ _))⟩
  · rw [Finset.le_fold_max]
    exact Or.inr ⟨j, Finset.mem_univ _, le_rfl⟩

/-- The signed order of small words is that of the numbers. -/
theorem minsi_ofNat {a b : ℕ} (ha : a < 2147483648) (hb : b < 2147483648) :
    IntOp.minsi (BitVec.ofNat 32 a) (BitVec.ofNat 32 b) = BitVec.ofNat 32 (min a b) := by
  unfold IntOp.minsi
  have h : (BitVec.ofNat 32 a).slt (BitVec.ofNat 32 b) = decide (a < b) := by
    rw [BitVec.slt_eq_decide]
    congr 1
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  rw [h]
  by_cases hab : a < b
  · simp [hab, min_eq_left hab.le]
  · simp [hab, min_eq_right (not_lt.1 hab)]

/-- A minimum of small words from the greatest is attained. -/
theorem fold_min {n : ℕ} (f : Fin (n + 1) → ℕ) (hf : ∀ c, f c < 2147483648) :
    ∃ j, (∀ c, f j ≤ f c) ∧ Finset.univ.fold IntOp.minsi (2147483647#32) (fun c => BitVec.ofNat 32 (f c)) = BitVec.ofNat 32 (f j) := by
  have key : ∀ s : Finset (Fin (n + 1)), s.fold IntOp.minsi (2147483647#32) (fun c => BitVec.ofNat 32 (f c))
      = BitVec.ofNat 32 (s.fold min 2147483647 f) ∧ s.fold min 2147483647 f < 2147483648 := by
    intro s
    induction s using Finset.induction_on with
    | empty => exact ⟨rfl, by simp⟩
    | insert a s ha ih =>
      rw [Finset.fold_insert ha, Finset.fold_insert ha, ih.1, minsi_ofNat (hf a) ih.2]
      exact ⟨rfl, lt_of_le_of_lt (min_le_left _ _) (hf a)⟩
  obtain ⟨j, -, hj⟩ := Finset.exists_min_image (Finset.univ : Finset (Fin (n + 1))) f ⟨0, Finset.mem_univ _⟩
  refine ⟨j, fun c => hj c (Finset.mem_univ _), (key _).1.trans (congrArg _ (le_antisymm ?_ ?_))⟩
  · rw [Finset.fold_min_le]
    exact Or.inr ⟨j, Finset.mem_univ _, le_rfl⟩
  · rw [Finset.le_fold_min]
    exact ⟨by have := hf j; omega, fun c _ => hj c (Finset.mem_univ _)⟩

/-- The coordinate found by a maximum and the least position that attains it is the first such. -/
theorem fold_first {n : ℕ} (v : Fin (n + 1) → ℝ) (p : Fin (n + 1) → ℕ) (hp : StrictMono p) (B : ℕ) (hB : ∀ c, p c < B) (hB' : B < 2147483648) :
    ∃ j, (∀ c, v c ≤ v j) ∧ (∀ c, c < j → v c < v j) ∧ Finset.univ.fold max (⊥ : EReal) (fun c => (v c : EReal)) = (v j : EReal)
      ∧ Finset.univ.fold IntOp.minsi (2147483647#32) (fun c => if (v c : EReal) = (v j : EReal) then BitVec.ofNat 32 (p c) else BitVec.ofNat 32 B)
        = BitVec.ofNat 32 (p j) := by
  obtain ⟨m, hm, hM⟩ := fold_max v
  obtain ⟨j, hj, hJ⟩ := fold_min (fun c => if v c = v m then p c else B) (fun c => by
    show (if v c = v m then p c else B) < _
    split_ifs
    · exact (hB c).trans hB'
    · exact hB')
  have hjm : v j = v m := by
    by_contra hne
    have h := hj m
    simp only [if_neg hne, if_true] at h
    exact absurd (hB m) (not_lt.2 h)
  refine ⟨j, fun c => hjm ▸ hm c, fun c hc => ?_, hM.trans (by rw [hjm]), ?_⟩
  · refine lt_of_le_of_ne (hjm ▸ hm c) fun he => ?_
    have h := hj c
    simp only [if_pos (he.trans hjm), if_pos hjm] at h
    exact absurd (hp hc) (not_lt.2 h)
  · rw [hjm]
    have hJ' := hJ
    simp only [if_pos hjm] at hJ'
    rw [← hJ']
    congr 1
    funext c
    simp only [EReal.coe_eq_coe_iff]
    split_ifs <;> rfl

/-- Coordinates are equal when their words are. -/
theorem ofNat_eq {d j : ℕ} (hd : d < 4294967296) (hj : j < 4294967296) : BitVec.ofNat 32 d = BitVec.ofNat 32 j ↔ d = j :=
  ⟨fun h => by
    have := congrArg BitVec.toNat h
    simp only [BitVec.toNat_ofNat] at this
    rwa [Nat.mod_eq_of_lt (by omega), Nat.mod_eq_of_lt (by omega)] at this, fun h => h ▸ rfl⟩

/-! ## The running log-sum-exp -/

/-- `log ∑ exp v`. -/
def lse (v : Fin 8192 → ℝ) : ℝ := Real.log (∑ d, Real.exp (v d))

/-- The running maximum and the running sum of exponentials over the first `k` blocks. -/
def Stat (v : Fin 8192 → ℝ) (k : ℕ) (mx sm : EReal) : Prop :=
  (k = 0 → mx = ⊥ ∧ sm = 0) ∧ (k ≠ 0 → ∃ M S : ℝ, mx = M ∧ sm = S ∧ S * Real.exp M = below (fun d => Real.exp (v d)) k)

theorem Stat.zero (v : Fin 8192 → ℝ) : Stat v 0 ⊥ 0 := ⟨fun _ => ⟨rfl, rfl⟩, fun h => absurd rfl h⟩

/-- One more block. -/
theorem Stat.succ {v : Fin 8192 → ℝ} {k : Fin 16} {mx sm mx' sm' : EReal} (h : Stat v k.val mx sm)
    (hm : mx' = max mx (Finset.univ.fold max (⊥ : EReal) fun c => (v (at' k c) : EReal)))
    (hs : sm' = sm * Ideal.exp (mx - mx') + ∑ c, Ideal.exp ((v (at' k c) : EReal) - mx')) : Stat v (k.val + 1) mx' sm' := by
  refine ⟨fun h0 => absurd h0 (Nat.succ_ne_zero _), fun _ => ?_⟩
  obtain ⟨j, -, hj⟩ := fold_max fun c : Fin 512 => v (at' k c)
  rw [hj] at hm
  have hE : ∀ M : ℝ, ∑ c, Ideal.exp ((v (at' k c) : EReal) - (M : EReal)) = ((∑ c, Real.exp (v (at' k c) - M) : ℝ) : EReal) := by
    intro M
    rw [← coe_sum]
    exact Finset.sum_congr rfl fun c _ => by rw [← EReal.coe_sub, Ideal.exp_coe]
  have hT : ∀ M : ℝ, (∑ c, Real.exp (v (at' k c) - M)) * Real.exp M = ∑ c, Real.exp (v (at' k c)) := by
    intro M
    rw [Finset.sum_mul]
    exact Finset.sum_congr rfl fun c _ => by rw [← Real.exp_add, sub_add_cancel]
  rcases Nat.eq_zero_or_pos k.val with h0 | h0
  · obtain ⟨rfl, rfl⟩ := h.1 h0
    rw [max_eq_right bot_le] at hm
    subst hm
    refine ⟨v (at' k j), ∑ c, Real.exp (v (at' k c) - v (at' k j)), rfl, hs.trans ?_, ?_⟩
    · rw [hE, zero_mul, zero_add]
    · rw [hT, below_succ, h0, below_zero, zero_add]
  · obtain ⟨M, S, rfl, rfl, hS⟩ := h.2 h0.ne'
    rw [← EReal.coe_strictMono.monotone.map_max] at hm
    subst hm
    refine ⟨max M (v (at' k j)), S * Real.exp (M - max M (v (at' k j))) + ∑ c, Real.exp (v (at' k c) - max M (v (at' k j))), rfl,
      hs.trans ?_, ?_⟩
    · rw [hE, ← EReal.coe_sub, Ideal.exp_coe, ← EReal.coe_mul, ← EReal.coe_add]
    · rw [add_mul, hT, mul_assoc, ← Real.exp_add, sub_add_cancel, hS, below_succ]

/-- After all blocks the log-sum-exp is read off. -/
theorem Stat.lse {v : Fin 8192 → ℝ} {mx sm : EReal} (h : Stat v 16 mx sm) : mx + Ideal.log sm = (lse v : EReal) := by
  obtain ⟨M, S, rfl, rfl, hS⟩ := h.2 (by decide)
  rw [below_all] at hS
  have hpos : 0 < ∑ d, Real.exp (v d) := Finset.sum_pos (fun d _ => Real.exp_pos _) ⟨0, Finset.mem_univ _⟩
  have hS0 : 0 < S := by
    by_contra hn
    exact absurd (hS ▸ hpos) (not_lt.2 (mul_nonpos_of_nonpos_of_nonneg (not_lt.1 hn) (Real.exp_pos M).le))
  rw [Ideal.log_coe, if_neg (not_le.2 hS0), ← EReal.coe_add, Chain.lse, ← hS, Real.log_mul hS0.ne' (Real.exp_pos M).ne', Real.log_exp,
    add_comm]

/-! ## The running best -/

/-- `j` is the first of the coordinates below `n` at which `v` is greatest. -/
def First (v : Fin 8192 → ℝ) (n : ℕ) (j : Fin 8192) : Prop :=
  j.val < n ∧ (∀ d, d.val < n → v d ≤ v j) ∧ ∀ d, d < j → v d < v j

theorem First.unique {v : Fin 8192 → ℝ} {n : ℕ} {i j : Fin 8192} (hi : First v n i) (hj : First v n j) : i = j := by
  rcases lt_trichotomy i j with h | h | h
  · exact absurd (hj.2.2 i h) (not_lt.2 (hi.2.1 j hj.1))
  · exact h
  · exact absurd (hi.2.2 j h) (not_lt.2 (hj.2.1 i hi.1))

/-- `j` is the first coordinate of block `k` at which `v` is greatest there. -/
def FirstIn (v : Fin 8192 → ℝ) (k : Fin 16) (j : Fin 512) : Prop :=
  (∀ c, v (at' k c) ≤ v (at' k j)) ∧ ∀ c, c < j → v (at' k c) < v (at' k j)

theorem FirstIn.first {v : Fin 8192 → ℝ} {k : Fin 16} {j : Fin 512} (h : FirstIn v k j) (h0 : k.val = 0) : First v ((k.val + 1) * 512) (at' k j) := by
  have hat : ∀ d : Fin 8192, d.val < 512 → ∃ c : Fin 512, at' k c = d ∧ c.val = d.val := fun d hd =>
    ⟨⟨d.val, hd⟩, Fin.ext (by show k.val * 512 + d.val = d.val; omega), rfl⟩
  refine ⟨by show k.val * 512 + j.val < _; omega, fun d hd => ?_, fun d hd => ?_⟩
  · obtain ⟨c, rfl, -⟩ := hat d (by omega)
    exact h.1 c
  · have hd' : d.val < k.val * 512 + j.val := hd
    obtain ⟨c, rfl, hc⟩ := hat d (by omega)
    exact h.2 c (by show c.val < j.val; omega)

theorem First.succ {v : Fin 8192 → ℝ} {k : Fin 16} {i : Fin 8192} {j : Fin 512} (hi : First v (k.val * 512) i) (hj : FirstIn v k j) :
    First v ((k.val + 1) * 512) (if v i < v (at' k j) then at' k j else i) := by
  have hat : ∀ d : Fin 8192, k.val * 512 ≤ d.val → d.val < (k.val + 1) * 512 → ∃ c : Fin 512, at' k c = d ∧ k.val * 512 + c.val = d.val := fun d h1 h2 =>
    ⟨⟨d.val - k.val * 512, by omega⟩, Fin.ext (by show k.val * 512 + (d.val - k.val * 512) = d.val; omega), by
      show k.val * 512 + (d.val - k.val * 512) = d.val; omega⟩
  have hjv : (at' k j).val = k.val * 512 + j.val := rfl
  split_ifs with hlt
  · refine ⟨by omega, fun d hd => ?_, fun d hd => ?_⟩
    · rcases lt_or_ge d.val (k.val * 512) with h | h
      · exact ((hi.2.1 d h).trans_lt hlt).le
      · obtain ⟨c, rfl, -⟩ := hat d h hd
        exact hj.1 c
    · have hd' : d.val < (at' k j).val := hd
      rcases lt_or_ge d.val (k.val * 512) with h | h
      · exact (hi.2.1 d h).trans_lt hlt
      · obtain ⟨c, rfl, hc⟩ := hat d h (by omega)
        exact hj.2 c (by show c.val < j.val; omega)
  · refine ⟨by have := hi.1; omega, fun d hd => ?_, hi.2.2⟩
    rcases lt_or_ge d.val (k.val * 512) with h | h
    · exact hi.2.1 d h
    · obtain ⟨c, rfl, -⟩ := hat d h hd
      exact (hj.1 c).trans (not_lt.1 hlt)

theorem exists_first (v : Fin 8192 → ℝ) : ∃ j, First v 8192 j := by
  classical
  obtain ⟨m, -, hm⟩ := Finset.exists_max_image (Finset.univ : Finset (Fin 8192)) v ⟨0, Finset.mem_univ _⟩
  obtain ⟨j, hj, hj'⟩ := Finset.exists_min_image (Finset.univ.filter fun j : Fin 8192 => v j = v m) id ⟨m, by simp⟩
  have hjm : v j = v m := (Finset.mem_filter.1 hj).2
  refine ⟨j, j.isLt, fun d _ => (hm d (Finset.mem_univ _)).trans hjm.ge, fun d hd => ?_⟩
  refine lt_of_le_of_ne ((hm d (Finset.mem_univ _)).trans hjm.ge) fun he => ?_
  exact absurd (hj' d (Finset.mem_filter.2 ⟨Finset.mem_univ _, he.trans hjm⟩)) (not_le.2 hd)

/-- The first coordinate at which `v` is greatest. -/
def pick (v : Fin 8192 → ℝ) : Fin 8192 := (exists_first v).choose
theorem pick_first (v : Fin 8192 → ℝ) : First v 8192 (pick v) := (exists_first v).choose_spec
theorem First.eq_pick {v : Fin 8192 → ℝ} {j : Fin 8192} (h : First v 8192 j) : j = pick v := h.unique (pick_first v)

theorem at'_strictMono (k : Fin 16) : StrictMono fun c => (at' k c).val := fun c d h => by
  show k.val * 512 + c.val < k.val * 512 + d.val
  have : c.val < d.val := h
  omega

/-- The same over a column block. -/
theorem fold_firstIn (v : Fin 8192 → ℝ) (k : Fin 16) :
    ∃ j, FirstIn v k j ∧ Finset.univ.fold max (⊥ : EReal) (fun c => (v (at' k c) : EReal)) = (v (at' k j) : EReal)
      ∧ Finset.univ.fold IntOp.minsi (2147483647#32)
          (fun c => if (v (at' k c) : EReal) = (v (at' k j) : EReal) then BitVec.ofNat 32 (at' k c).val else (1073741824#32))
        = BitVec.ofNat 32 (at' k j).val := by
  obtain ⟨j, h1, h2, h3, h4⟩ := fold_first (n := 511) (fun c => v (at' k c)) (fun c => (at' k c).val) (at'_strictMono k) 1073741824
    (fun c => (at' k c).isLt.trans (by decide)) (by decide)
  exact ⟨j, ⟨h1, h2⟩, h3, h4⟩

/-- The same over all coordinates. -/
theorem fold_pick (v : Fin 8192 → ℝ) :
    Finset.univ.fold max (⊥ : EReal) (fun c => (v c : EReal)) = (v (pick v) : EReal)
      ∧ Finset.univ.fold IntOp.minsi (2147483647#32) (fun c => if (v c : EReal) = (v (pick v) : EReal) then BitVec.ofNat 32 c.val else (8192#32))
        = BitVec.ofNat 32 (pick v).val := by
  obtain ⟨j, h1, h2, h3, h4⟩ := fold_first (n := 8191) v (fun c => c.val) (fun _ _ h => h) 8192 (fun c => c.isLt) (by decide)
  obtain rfl : j = pick v := First.eq_pick ⟨j.isLt, fun d _ => h1 d, h2⟩
  exact ⟨h3, h4⟩

/-- The running best score, its coordinate, and what `w` and `x` are there. -/
def Best (v w x : Fin 8192 → ℝ) (k : ℕ) (bv : EReal) (bi : BitVec 32) (bw bx : EReal) : Prop :=
  (k = 0 → bv = ⊥) ∧ (k ≠ 0 → ∃ j, First v (k * 512) j ∧ bv = (v j : EReal) ∧ bi = BitVec.ofNat 32 j.val ∧ bw = (w j : EReal) ∧ bx = (x j : EReal))

theorem Best.zero (v w x : Fin 8192 → ℝ) (bi : BitVec 32) (bw bx : EReal) : Best v w x 0 ⊥ bi bw bx := ⟨fun _ => rfl, fun h => absurd rfl h⟩

/-- One more block, whose best is `j`. -/
theorem Best.succ {v w x : Fin 8192 → ℝ} {k : Fin 16} {bv bw bx bv' bw' bx' : EReal} {bi bi' : BitVec 32} {j : Fin 512}
    (h : Best v w x k.val bv bi bw bx) (hj : FirstIn v k j)
    (hv : bv' = if bv < (v (at' k j) : EReal) then (v (at' k j) : EReal) else bv)
    (hi : bi' = if bv < (v (at' k j) : EReal) then BitVec.ofNat 32 (at' k j).val else bi)
    (hw : bw' = if bv < (v (at' k j) : EReal) then (w (at' k j) : EReal) else bw)
    (hx : bx' = if bv < (v (at' k j) : EReal) then (x (at' k j) : EReal) else bx) : Best v w x (k.val + 1) bv' bi' bw' bx' := by
  refine ⟨fun h0 => absurd h0 (Nat.succ_ne_zero _), fun _ => ?_⟩
  rcases Nat.eq_zero_or_pos k.val with h0 | h0
  · obtain rfl := h.1 h0
    rw [if_pos (EReal.bot_lt_coe _)] at hv hi hw hx
    exact ⟨_, hj.first h0, hv, hi, hw, hx⟩
  · obtain ⟨i, hF, rfl, rfl, rfl, rfl⟩ := h.2 h0.ne'
    refine ⟨_, hF.succ hj, ?_⟩
    simp only [EReal.coe_lt_coe_iff] at hv hi hw hx
    by_cases hlt : v i < v (at' k j)
    · rw [if_pos hlt] at hv hi hw hx ⊢
      exact ⟨hv, hi, hw, hx⟩
    · rw [if_neg hlt] at hv hi hw hx ⊢
      exact ⟨hv, hi, hw, hx⟩

theorem Best.all {v w x : Fin 8192 → ℝ} {bv bw bx : EReal} {bi : BitVec 32} (h : Best v w x 16 bv bi bw bx) :
    bi = BitVec.ofNat 32 (pick v).val ∧ bw = (w (pick v) : EReal) ∧ bx = (x (pick v) : EReal) := by
  obtain ⟨j, hF, -, hi, hw, hx⟩ := h.2 (by decide)
  obtain rfl : j = pick v := First.eq_pick hF
  exact ⟨hi, hw, hx⟩

/-! ## The step -/

/-- `1` at `j`, `0` elsewhere. -/
def ind (d j : Fin 8192) : ℝ := if d = j then 1 else 0
/-- Whether coordinate `d` is flipped by the draws `i` and `j`: it is drawn exactly once. -/
def flip (i j d : Fin 8192) : ℝ := |ind d i - ind d j|

theorem sum_ind (f : Fin 8192 → ℝ) (j : Fin 8192) : ∑ d, f d * ind d j = f j := by
  simp [ind]

theorem sum_ind_at (f : Fin 8192 → ℝ) (k : Fin 16) (j : Fin 512) : ∑ c, f (at' k c) * ind (at' k c) (at' k j) = f (at' k j) := by
  have h : ∀ c, at' k c = at' k j ↔ c = j := fun c => ⟨fun e => by
    have := (at'_strictMono k).injective (congrArg Fin.val e); exact this, fun e => e ▸ rfl⟩
  simp [ind, h]

/-! ## Words -/

theorem abs_coe (r : ℝ) : FloatOps.absf (F := Ideal) (φ := .f32) (r : EReal) = ((|r| : ℝ) : EReal) := by
  show max (r : EReal) (-(r : EReal)) = _
  rw [← EReal.coe_neg, ← EReal.coe_strictMono.monotone.map_max]; rfl

/-- A comparison of words, as a number. -/
theorem sitofp_bit (p : Prop) [Decidable p] : FloatOps.sitofp (F := Ideal) .f32 (BitVec.setWidth 32 (BitVec.ofBool (decide p)))
    = (((if p then 1 else 0 : ℝ)) : EReal) := by
  by_cases h : p
  · simp only [h, decide_true, if_true]
    show (((BitVec.setWidth 32 (BitVec.ofBool true)).toInt : ℝ) : EReal) = _
    have : (BitVec.setWidth 32 (BitVec.ofBool true)).toInt = 1 := by decide
    rw [this]; norm_num
  · simp only [h, decide_false, if_false]
    show (((BitVec.setWidth 32 (BitVec.ofBool false)).toInt : ℝ) : EReal) = _
    have : (BitVec.setWidth 32 (BitVec.ofBool false)).toInt = 0 := by decide
    rw [this]; norm_num

theorem ind_word (d j : Fin 8192) :
    FloatOps.sitofp (F := Ideal) .f32 (BitVec.setWidth 32 (IntOp.cmpi CmpIPredicate.eq (BitVec.ofNat 32 d.val) (BitVec.ofNat 32 j.val)))
      = (ind d j : EReal) := by
  have h : IntOp.cmpi CmpIPredicate.eq (BitVec.ofNat 32 d.val) (BitVec.ofNat 32 j.val) = BitVec.ofBool (decide (d = j)) := by
    show BitVec.ofBool (BitVec.ofNat 32 d.val == BitVec.ofNat 32 j.val) = _
    congr 1
    rw [beq_eq_decide, decide_eq_decide, ofNat_eq (by omega) (by omega), Fin.ext_iff]
  rw [h, sitofp_bit]
  unfold ind
  congr
theorem ne_word (d j : Fin 8192) :
    FloatOps.sitofp (F := Ideal) .f32 (BitVec.setWidth 32 (IntOp.cmpi CmpIPredicate.ne (BitVec.ofNat 32 d.val) (BitVec.ofNat 32 j.val)))
      = ((if d = j then 0 else 1 : ℝ) : EReal) := by
  have h : IntOp.cmpi CmpIPredicate.ne (BitVec.ofNat 32 d.val) (BitVec.ofNat 32 j.val) = BitVec.ofBool (decide (¬ d = j)) := by
    show BitVec.ofBool (BitVec.ofNat 32 d.val != BitVec.ofNat 32 j.val) = _
    congr 1
    rw [bne, beq_eq_decide, ← decide_not, decide_eq_decide, ofNat_eq (by omega) (by omega), Fin.ext_iff]
  rw [h, sitofp_bit]
  by_cases e : d = j <;> simp [e]

section
variable (U : Fin 8192 → Fin 64 → ℝ)

/-- `x U`. -/
def prod (x : Fin 8192 → ℝ) (r : Fin 64) : ℝ := ∑ d, x d * U d r
/-- The linear response of the energy to flipping coordinate `d`. -/
def resp (z : Fin 64 → ℝ) (x : Fin 8192 → ℝ) (d : Fin 8192) : ℝ := 2 * (∑ r, z r * U d r) * (1 - 2 * x d)
/-- The logits of the proposal from `x`. -/
def logit (x : Fin 8192 → ℝ) : Fin 8192 → ℝ := resp U (prod U x) x
/-- The coordinates drawn. -/
def draw (x g : Fin 8192 → ℝ) : Fin 8192 := pick fun d => logit U x d + g d
end

/-- `x` with the coordinates drawn exactly once flipped, `a` times over. -/
def moved (x : Fin 8192 → ℝ) (i j : Fin 8192) (a : ℝ) (d : Fin 8192) : ℝ := x d + (1 - 2 * x d) * flip i j d * a

/-- The log-probability of drawing `i` and `j` from the logits `w`. -/
def logp (w : Fin 8192 → ℝ) (i j : Fin 8192) : ℝ := w i + w j - 2 * lse w

section
variable (U : Fin 8192 → Fin 64 → ℝ)

/-- The logarithm of the acceptance ratio of the move from `x` by the draws `i` and `j`. -/
def ratio (x : Fin 8192 → ℝ) (i j : Fin 8192) : ℝ :=
  (∑ r, prod U (moved x i j 1) r * prod U (moved x i j 1) r - ∑ r, prod U x r * prod U x r) + logp (logit U (moved x i j 1)) i j
    - logp (logit U x) i j

/-- Whether the move is taken. -/
def taken (x : Fin 8192 → ℝ) (i j : Fin 8192) (u : EReal) : ℝ := if u < ((Real.exp (ratio U x i j) : ℝ) : EReal) then 1 else 0

/-- One step of the chain. -/
def step (x : Fin 8192 → ℝ) (g : Fin 2 → Fin 8192 → ℝ) (u : EReal) : Fin 8192 → ℝ :=
  moved x (draw U x (g 0)) (draw U x (g 1)) (taken U x (draw U x (g 0)) (draw U x (g 1)) u)

/-- The chain from the state `x`: its state after so many of the four steps. -/
def chain (x : Fin 8192 → ℝ) (g : Fin 4 → Fin 2 → Fin 8192 → ℝ) (u : Fin 4 → EReal) : ℕ → Fin 8192 → ℝ
  | 0 => x
  | t + 1 => if h : t < 4 then step U (chain x g u t) (g ⟨t, h⟩) (u ⟨t, h⟩) else chain x g u t

theorem chain_succ (x : Fin 8192 → ℝ) (g : Fin 4 → Fin 2 → Fin 8192 → ℝ) (u : Fin 4 → EReal) (t : Fin 4) :
    chain U x g u (t.val + 1) = step U (chain U x g u t.val) (g t) (u t) := by
  rw [chain, dif_pos t.isLt]

theorem taken_cases (x : Fin 8192 → ℝ) (i j : Fin 8192) (u : EReal) : taken U x i j u = 0 ∨ taken U x i j u = 1 := by
  unfold taken; split_ifs <;> simp

theorem moved_zero (x : Fin 8192 → ℝ) (i j : Fin 8192) : moved x i j 0 = x := funext fun d => by simp [moved]

/-- The product follows the state. -/
theorem prod_moved (x : Fin 8192 → ℝ) (i j : Fin 8192) {a : ℝ} (ha : a = 0 ∨ a = 1) (r : Fin 64) :
    prod U x r * (1 - a) + prod U (moved x i j 1) r * a = prod U (moved x i j a) r := by
  rcases ha with rfl | rfl
  · rw [moved_zero]; ring
  · ring

/-- The product of the moved state is the old product and the rows of the coordinates flipped. -/
theorem prod_add (x : Fin 8192 → ℝ) (i j : Fin 8192) (r : Fin 64) :
    prod U x r + ∑ d, ((if i = j then 0 else 1) * (1 - 2 * x i) * ind d i + (if i = j then 0 else 1) * (1 - 2 * x j) * ind d j) * U d r
      = prod U (moved x i j 1) r := by
  unfold prod
  rw [← Finset.sum_add_distrib]
  refine Finset.sum_congr rfl fun d _ => ?_
  rw [← add_mul]
  congr 1
  unfold moved flip ind
  by_cases hij : i = j
  · subst hij; simp
  · by_cases hi : d = i
    · subst hi; simp [hij]
    · by_cases hj : d = j
      · subst hj; simp [hi, Ne.symm hi]
      · simp [hi, hj]
end

end Cert.Chain

end
-- ==== Proof.Finite.lean ====
module

public import proofs.«01_k».proof.Pre_finite
public import Idealize.ShloMosaic.Lib.ReduceAll
public import Idealize.ShloMosaic.Lib.Decide
public import proofs.«01_k».proof.Proof.Chain

@[expose] public section

set_option maxRecDepth 16384

noncomputable section

namespace Cert.Pre_finite

open Idealize.ShloMosaic Idealize.ShloMosaic.Tactic

/-- The side conditions of the precondition's operations. -/
theorem facts : Facts where
  bcast_S_S1024x8192 := by decide
  reducesTo_S1024x8192_S_d0_1 := by decide
  h_S_ := by decide
  bcast_S_S8192x64 := by decide
  reducesTo_S8192x64_S_d0_1 := by decide
  bcast_S_S4x2x1024x8192 := by decide
  reducesTo_S4x2x1024x8192_S_d0_1_2_3 := by decide

/-- Below +∞ in absolute value is a real number. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have top : Ideal.ofBits .f32 0x7F800000#32 = ⊤ := by
    simp [Ideal.ofBits, Ideal.ieee]
  rw [top] at h
  have hlt : max x (-x) < ⊤ := by
    by_contra hn
    have h' : BitVec.ofBool (decide (max x (-x) < ⊤)) = 1#1 := h
    rw [decide_eq_false hn] at h'
    exact absurd h' (by decide)
  have h1 : x ≠ ⊤ := fun e => by
    rw [e] at hlt
    simp at hlt
  have h2 : x ≠ ⊥ := fun e => by
    rw [e] at hlt
    simp at hlt
  exact ⟨x.toReal, (EReal.coe_toReal h1 h2).symm⟩

variable [Facts]

/-- Where the precondition holds, the three arrays hold real numbers. -/
theorem reals (x : FVec Ideal S1024x8192 .f32) (u : FVec Ideal S8192x64 .f32) (g : FVec Ideal S4x2x1024x8192 .f32) (a : FVec Ideal S1024x4 .f32)
    (h : fn x u g a = fun _ => 1#1) :
    (∀ i, ∃ r : ℝ, x i = (r : EReal)) ∧ (∀ i, ∃ r : ℝ, u i = (r : EReal)) ∧ (∀ i, ∃ r : ℝ, g i = (r : EReal)) := by
  have e := congrFun h (fun a => a.elim0)
  haveI : Subsingleton S_.Idx := ⟨fun i j => funext fun a => a.elim0⟩
  obtain ⟨e12, e3⟩ := IntOp.andi_eq_one.1 e
  obtain ⟨e1, e2⟩ := IntOp.andi_eq_one.1 e12
  exact ⟨fun i => real_of_abs_lt _ (Host.reduce_andi_all _ _ _ _ _ e1 i), fun i => real_of_abs_lt _ (Host.reduce_andi_all _ _ _ _ _ e2 i),
    fun i => real_of_abs_lt _ (Host.reduce_andi_all _ _ _ _ _ e3 i)⟩

end Cert.Pre_finite

end
-- ==== Proof.KernelIdeal.State.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the branch the body takes at the first column block (four times over). -/
abbrev first (i : grid0.Coords) : Prop :=
  Scalar.cmpi .ne (Scalar.extui (Scalar.cmpi .eq (BitVec.ofNat 32 (i 1).val) 0#32) : BitVec 32) 0#32 = 1#1
/-- The condition of the branch the body takes at the last column block. -/
abbrev last (i : grid0.Coords) : Prop :=
  Scalar.cmpi .ne (Scalar.extui (Scalar.cmpi .eq (BitVec.ofNat 32 (i 1).val) 15#32) : BitVec 32) 0#32 = 1#1

/-! ## What one grid point does to the scratch buffers, as a function -/

/-- The contents of the thirteen scratch buffers: the chain's state and its product with `U`, the proposal's product,
the running maximum and sum of exponentials, the running best value, its linear response, its coordinate and its index
(two draws each), the flips of the previous step, the log-probability of the forward move, the reverse response, and
whether the previous step was taken. -/
structure St (F : FTy → Type) where
  xs : Vec F S1024x8192 .f32
  z : Vec F S1024x64 .f32
  zd : Vec F S1024x64 .f32
  mx : Vec F S1024x1 .f32
  sm : Vec F S1024x1 .f32
  bv : Vec F S1024x2 .f32
  bw : Vec F S1024x2 .f32
  bx : Vec F S1024x2 .f32
  bi : Vec F S1024x2 .i32
  pi : Vec F S1024x2 .i32
  lpf : Vec F S1024x1 .f32
  racc : Vec F S1024x2 .f32
  acc : Vec F S1024x1 .f32

theorem off1_inb : ∀ i : grid0.Coords, ∀ a, k0_off1 i a + S1024x512.size a ≤ S1024x8192.size a := by decide +kernel
theorem off2_inb : ∀ i : grid0.Coords, ∀ a, k0_off2 i a + S512x64.size a ≤ S8192x64.size a := by decide +kernel
theorem off3_inb : ∀ i : grid0.Coords, ∀ a, k0_off3 i a + S1024x512.size a ≤ S1024x8192.size a := by decide +kernel
theorem off4_inb : ∀ i : grid0.Coords, ∀ a, k0_off4 i a + S512x64.size a ≤ S8192x64.size a := by decide +kernel
theorem off6_inb : ∀ i : grid0.Coords, ∀ a, k0_off6 i a + S1024x512.size a ≤ S1024x8192.size a := by decide +kernel
theorem off7_inb : ∀ i : grid0.Coords, ∀ a, k0_off7 i a + S512x64.size a ≤ S8192x64.size a := by decide +kernel
theorem off8_inb : ∀ i : grid0.Coords, ∀ a, k0_off8 i a + S1024x512.size a ≤ S1024x8192.size a := by decide +kernel
theorem off5_inb : ∀ k : Fin k0_t1_loop.trips, ∀ a, k0_off5 k a + S512x64.size a ≤ S8192x64.size a := by decide +kernel

/-- The first column. -/
abbrev col0 {e : EltTy} (x : Vec F S1024x2 e) : Vec F S1024x1 e := VecWindow.window x ![0, 0] S1024x1.size inb_S1024x2_S1024x1_0_0
/-- The second column. -/
abbrev col1 {e : EltTy} (x : Vec F S1024x2 e) : Vec F S1024x1 e := VecWindow.window x ![0, 1] S1024x1.size inb_S1024x2_S1024x1_0_1
/-- `x` with its two columns replaced. -/
abbrev cols {e : EltTy} (x : Vec F S1024x2 e) (w0 w1 : Vec F S1024x1 e) : Vec F S1024x2 e :=
  VecWindow.put (VecWindow.put x ![0, 0] S1024x1.size w0) ![0, 1] S1024x1.size w1
/-- The noise of the first draw. -/
abbrev noise0 (g : Vec F S1x2x1024x512 .f32) : Vec F S1x1x1024x512 .f32 :=
  VecWindow.window g ![0, 0, 0, 0] S1x1x1024x512.size inb_S1x2x1024x512_S1x1x1024x512_0_0_0_0
/-- The noise of the second draw. -/
abbrev noise1 (g : Vec F S1x2x1024x512 .f32) : Vec F S1x1x1024x512 .f32 :=
  VecWindow.window g ![0, 1, 0, 0] S1x1x1024x512.size inb_S1x2x1024x512_S1x1x1024x512_0_1_0_0

/-- A whole column, as the load of all of it reads it. -/
abbrev all1 (x : Vec F S1024x1 .f32) : Vec F S1024x1 .f32 := VecWindow.window x ![0, 0] S1024x1.size inb_S1024x1_S1024x1_0_0
/-- A whole pair of columns, as the load of all of it reads it. -/
abbrev all2 {e : EltTy} (x : Vec F S1024x2 e) : Vec F S1024x2 e := VecWindow.window x ![0, 0] S1024x2.size inb_S1024x2_S1024x2_0_0
/-- A whole product with `U`, as the load of all of it reads it. -/
abbrev all64 (x : Vec F S1024x64 .f32) : Vec F S1024x64 .f32 := VecWindow.window x ![0, 0] S1024x64.size inb_S1024x64_S1024x64_0_0

/-- A whole column block, as the load of all of it reads it. -/
abbrev all512 (x : Vec F S1024x512 .f32) : Vec F S1024x512 .f32 := VecWindow.window x ![0, 0] S1024x512.size inb_S1024x512_S1024x512_0_0
/-- The whole of the uniform draws, as the load of all of it reads it. -/
abbrev all4 (x : Vec F S1024x4 .f32) : Vec F S1024x4 .f32 := VecWindow.window x ![0, 0] S1024x4.size inb_S1024x4_S1024x4_0_0

/-- The first column block of the loading phase: the product and the flips are cleared. -/
def initL (s : St F) : St F := { s with z := k0_pay60, acc := k0_pay61, pi := k0_pay62 }
/-- A column block of the loading phase, of the product `z0` read. -/
def stepLw (i : grid0.Coords) (x : Vec F S1024x512 .f32) (u : Vec F S8192x64 .f32) (z0 : Vec F S1024x64 .f32) (s : St F) : St F :=
  { s with
    xs := VecWindow.put s.xs (k0_off1 i) S1024x512.size (k0_pay63 (all512 x))
    z := k0_pay64 (all512 x) (VecWindow.window u (k0_off2 i) S512x64.size (off2_inb i)) z0 }
/-- A column block of the loading phase. -/
def stepL (i : grid0.Coords) (x : Vec F S1024x512 .f32) (u : Vec F S8192x64 .f32) (s : St F) : St F := stepLw i x u (all64 s.z) s

/-- The column block of the state with the previous step's flips applied. -/
def moved (i : grid0.Coords) (s : St F) : FVec F S1024x512 .f32 :=
  k0_pay13 (k0_pay59 i) (VecWindow.window s.xs (k0_off3 i) S1024x512.size (off3_inb i)) (col0 s.pi) (col1 s.pi) (all1 s.acc)
/-- Twice the product of the state's product with `U`'s row block. -/
def resp (i : grid0.Coords) (u : Vec F S8192x64 .f32) (s : St F) : FVec F S1024x512 .f32 :=
  k0_pay15 (VecWindow.window u (k0_off4 i) S512x64.size (off4_inb i)) (all64 s.z)
/-- Twice the moved column block. -/
def twice (i : grid0.Coords) (s : St F) : FVec F S1024x512 .f32 :=
  k0_pay16 (k0_pay59 i) (VecWindow.window s.xs (k0_off3 i) S1024x512.size (off3_inb i)) (col0 s.pi) (col1 s.pi) (all1 s.acc)
/-- The proposal's logits of the column block. -/
def logit (i : grid0.Coords) (u : Vec F S8192x64 .f32) (s : St F) : FVec F S1024x512 .f32 :=
  k0_pay18 (resp i u s) (twice i s) k0_pay17

/-- The first column block of a proposing phase: the running statistics are cleared. -/
def initA (s : St F) : St F := { s with mx := k0_pay10, sm := k0_pay11, bv := k0_pay12 }
/-- The first draw's best value after the column block, of the value `b0` read. -/
def best0 (i : grid0.Coords) (u : Vec F S8192x64 .f32) (g : Vec F S1x2x1024x512 .f32) (b0 : Vec F S1024x1 .f32) (s : St F) :
    FVec F S1024x1 .f32 :=
  k0_pay28 (k0_pay23 (resp i u s) (twice i s) k0_pay17 (noise0 g))
        (k0_pay24 (resp i u s) (twice i s) k0_pay17 (noise0 g) b0) b0
/-- A column block of a proposing phase, of the running statistics `m0`, `s0`, `b0`, `b1` read. -/
def stepAw (i : grid0.Coords) (u : Vec F S8192x64 .f32) (g : Vec F S1x2x1024x512 .f32) (m0 s0 b0 b1 : Vec F S1024x1 .f32) (s : St F) :
    St F :=
  { s with
    xs := VecWindow.put s.xs (k0_off3 i) S1024x512.size
      (k0_pay14 (k0_pay59 i) (VecWindow.window s.xs (k0_off3 i) S1024x512.size (off3_inb i)) (col0 s.pi) (col1 s.pi) (all1 s.acc))
    mx := k0_pay21 (resp i u s) (twice i s) k0_pay17 m0
    sm := k0_pay20 (resp i u s) (twice i s) k0_pay17 m0 s0 m0
    bv := cols s.bv (best0 i u g b0 s) (k0_pay38 (k0_pay33 (logit i u s) (noise1 g)) b1 b1)
    bi := cols s.bi
      (k0_pay29 (k0_pay24 (resp i u s) (twice i s) k0_pay17 (noise0 g) b0)
        (k0_pay25 (k0_pay59 i) (resp i u s) (twice i s) k0_pay17 (noise0 g)) (col0 s.bi))
      (k0_pay39 (k0_pay59 i) (k0_pay32 (logit i u s) (noise1 g)) (k0_pay33 (logit i u s) (noise1 g)) b1 (col1 s.bi))
    bw := cols s.bw
      (k0_pay30 (k0_pay59 i) (logit i u s) (k0_pay24 (resp i u s) (twice i s) k0_pay17 (noise0 g) b0)
        (k0_pay26 (k0_pay59 i) (resp i u s) (twice i s) k0_pay17 (noise0 g)) (col0 s.bw))
      (k0_pay40 (k0_pay59 i) (logit i u s) (k0_pay32 (logit i u s) (noise1 g)) (k0_pay33 (logit i u s) (noise1 g)) b1
        (col1 s.bw))
    bx := cols s.bx
      (k0_pay31 (k0_pay59 i) (moved i s) (k0_pay24 (resp i u s) (twice i s) k0_pay17 (noise0 g) b0)
        (k0_pay26 (k0_pay59 i) (resp i u s) (twice i s) k0_pay17 (noise0 g)) (col0 s.bx))
      (k0_pay1 (k0_pay41 (k0_pay59 i) (moved i s) (k0_pay32 (logit i u s) (noise1 g)) (k0_pay33 (logit i u s) (noise1 g))
        b1 (col1 s.bx))) }
/-- A column block of a proposing phase. -/
def stepA (i : grid0.Coords) (u : Vec F S8192x64 .f32) (g : Vec F S1x2x1024x512 .f32) (s : St F) : St F :=
  stepAw i u g (all1 s.mx) (all1 s.sm) (col0 s.bv) (col1 s.bv) s

/-- One trip of the loop that adds the flipped coordinates' rows of `U`. -/
def trip (u : Vec F S8192x64 .f32) (i0 i1 : Vec F S1024x1 .i32) (x0 x1 : Vec F S1024x1 .f32) (k : Fin k0_t1_loop.trips)
    (a : FVec F S1024x64 .f32) : FVec F S1024x64 .f32 :=
  k0_pay2 (k0_pay7 i0 i1 x0) (k0_pay8 i0 i1 x1) 0#32 1#32 k a i0 i1 (VecWindow.window u (k0_off5 k) S512x64.size (off5_inb k))
/-- What the loop has added before trip `k`. -/
def added (u : Vec F S8192x64 .f32) (i0 i1 : Vec F S1024x1 .i32) (x0 x1 : Vec F S1024x1 .f32) : ℕ → FVec F S1024x64 .f32
  | 0 => k0_pay9
  | k + 1 => if h : k < k0_t1_loop.trips then trip u i0 i1 x0 x1 ⟨k, h⟩ (added u i0 i1 x0 x1 k) else added u i0 i1 x0 x1 k
/-- The end of a proposing phase. -/
def finA (u : Vec F S8192x64 .f32) (s : St F) : St F :=
  { s with
    lpf := k0_pay5 (all1 s.mx) (all1 s.sm) (col0 s.bw) (col1 s.bw)
    zd := k0_pay3 (added u (col0 s.bi) (col1 s.bi) (col0 s.bx) (col1 s.bx) k0_t1_loop.trips) (all64 s.z) }

/-- The first column block of an accepting phase. -/
def initB (s : St F) : St F := { s with mx := k0_pay47, sm := k0_pay48, racc := k0_pay49 }
/-- The reverse logits of the column block. -/
def rlogit (i : grid0.Coords) (u : Vec F S8192x64 .f32) (s : St F) : FVec F S1024x512 .f32 :=
  k0_pay52 (k0_pay59 i) (VecWindow.window s.xs (k0_off6 i) S1024x512.size (off6_inb i)) (col0 s.bi) (col1 s.bi)
    (VecWindow.window u (k0_off7 i) S512x64.size (off7_inb i)) (all64 s.zd)
/-- The running maximum of the reverse logits after the column block, of the maximum `m0` read. -/
def rmax (i : grid0.Coords) (u : Vec F S8192x64 .f32) (m0 : Vec F S1024x1 .f32) (s : St F) : FVec F S1024x1 .f32 :=
  k0_pay53 (k0_pay59 i) (VecWindow.window s.xs (k0_off6 i) S1024x512.size (off6_inb i)) (col0 s.bi) (col1 s.bi)
    (VecWindow.window u (k0_off7 i) S512x64.size (off7_inb i)) (all64 s.zd) m0
/-- The first column of the reverse responses after the column block, of the column `r0` read. -/
def racc0 (i : grid0.Coords) (u : Vec F S8192x64 .f32) (r0 : Vec F S1024x1 .f32) (s : St F) : FVec F S1024x1 .f32 :=
  k0_pay56 (k0_pay50 (k0_pay59 i) (col0 s.bi)) (rlogit i u s) r0
/-- A column block of an accepting phase, of the running statistics `m0`, `s0`, `r0`, `r1` read. -/
def stepBw (i : grid0.Coords) (u : Vec F S8192x64 .f32) (m0 s0 r0 r1 : Vec F S1024x1 .f32) (s : St F) : St F :=
  { s with
    mx := k0_pay55 (rmax i u m0 s)
    sm := k0_pay54 (rlogit i u s) (rmax i u m0 s) s0 m0
    racc := cols s.racc (racc0 i u r0 s) (k0_pay57 (k0_pay51 (k0_pay59 i) (col1 s.bi)) (rlogit i u s) r1) }
/-- A column block of an accepting phase. -/
def stepB (i : grid0.Coords) (u : Vec F S8192x64 .f32) (s : St F) : St F :=
  stepBw i u (all1 s.mx) (all1 s.sm) (col0 s.racc) (col1 s.racc) s

/-- The phase less two, as a word. -/
def phase (i : grid0.Coords) : BitVec 32 := Scalar.subi (BitVec.ofNat 32 (i 0).val) 2#32
/-- The sign of that word. -/
def phaseSign (i : grid0.Coords) : BitVec 32 :=
  Scalar.subi (Scalar.extui (Scalar.cmpi .sgt (phase i) 0#32)) (Scalar.extui (Scalar.cmpi .slt (phase i) 0#32))
/-- The end of an accepting phase, of the running statistics read. -/
def finBw (i : grid0.Coords) (a : Vec F S1024x4 .f32) (m1 s1 r0 r1 : Vec F S1024x1 .f32) (s : St F) : St F :=
  { s with
    acc := k0_pay44 (k0_pay42 m1 s1 r0 r1 (all64 s.zd) (all64 s.zd) (all64 s.z) (all64 s.z) (all1 s.lpf)) (phase i) 2#32
      (Scalar.divsi (phase i) 2#32) (phaseSign i) (Scalar.extui (Scalar.cmpi .sgt 2#32 0#32)) 0#32 (all4 a)
    pi := k0_pay45 (all2 s.bi)
    z := k0_pay58 (k0_pay46 (k0_pay42 m1 s1 r0 r1 (all64 s.zd) (all64 s.zd) (all64 s.z) (all64 s.z) (all1 s.lpf)) (phase i) 2#32
      (Scalar.divsi (phase i) 2#32) (phaseSign i) (Scalar.extui (Scalar.cmpi .sgt 2#32 0#32)) 0#32 (all4 a) (all64 s.z) (all64 s.zd)) }
/-- The end of an accepting phase. -/
def finB (i : grid0.Coords) (a : Vec F S1024x4 .f32) (s : St F) : St F :=
  finBw i a (all1 s.mx) (all1 s.sm) (col0 s.racc) (col1 s.racc) s

/-- The output block. -/
def outC (i : grid0.Coords) (s : St F) : FVec F S1024x512 .f32 :=
  k0_pay4 (k0_pay59 i) (VecWindow.window s.xs (k0_off8 i) S1024x512.size (off8_inb i)) (col0 s.pi) (col1 s.pi) (all1 s.acc)

/-! ## Loads and stores as windows -/

theorem window_full {α : Type} {s : Shape} (x : s.Idx → α) (off : Fin s.rank → ℕ) (inb : ∀ a, off a + s.size a ≤ s.size a) :
    VecWindow.window x off s.size inb = x :=
  funext fun y => congrArg x (funext fun a => Fin.ext (by
    show off a + 1 * (y a).val = (y a).val
    have := inb a; omega))

theorem readAt_win {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

theorem read_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

theorem put_full {α : Type} {s : Shape} (x : s.Idx → α) (off : Fin s.rank → ℕ) (inb : ∀ a, off a + s.size a ≤ s.size a) (w : s.Idx → α) :
    VecWindow.put x off s.size w = w := by
  rw [← window_full (VecWindow.put x off s.size w) off inb]; exact VecWindow.window_put_same x off s.size inb w

/-- The second column is not touched by a store into the first. -/
theorem col1_put0 {e : EltTy} (x : Vec F S1024x2 e) (w : Vec F S1024x1 e) :
    VecWindow.window (VecWindow.put x ![0, 0] S1024x1.size w) ![0, 1] S1024x1.size inb_S1024x2_S1024x1_0_1 = col1 x :=
  VecWindow.window_put_of_disjoint x _ _ _ _ _ w 1 (by decide)
/-- The first column is not touched by a store into the second. -/
theorem col0_put1 {e : EltTy} (x : Vec F S1024x2 e) (w : Vec F S1024x1 e) :
    VecWindow.window (VecWindow.put x ![0, 1] S1024x1.size w) ![0, 0] S1024x1.size inb_S1024x2_S1024x1_0_0 = col0 x :=
  VecWindow.window_put_of_disjoint x _ _ _ _ _ w 1 (by decide)
theorem col0_put0 {e : EltTy} (x : Vec F S1024x2 e) (w : Vec F S1024x1 e) :
    VecWindow.window (VecWindow.put x ![0, 0] S1024x1.size w) ![0, 0] S1024x1.size inb_S1024x2_S1024x1_0_0 = w :=
  VecWindow.window_put_same x _ _ _ w
theorem col1_put1 {e : EltTy} (x : Vec F S1024x2 e) (w : Vec F S1024x1 e) :
    VecWindow.window (VecWindow.put x ![0, 1] S1024x1.size w) ![0, 1] S1024x1.size inb_S1024x2_S1024x1_0_1 = w :=
  VecWindow.window_put_same x _ _ _ w

theorem all1_eq (x : Vec F S1024x1 .f32) : all1 x = x := window_full x _ _
theorem all2_eq {e : EltTy} (x : Vec F S1024x2 e) : all2 x = x := window_full x _ _
theorem all64_eq (x : Vec F S1024x64 .f32) : all64 x = x := window_full x _ _
theorem all512_eq (x : Vec F S1024x512 .f32) : all512 x = x := window_full x _ _
theorem all4_eq (x : Vec F S1024x4 .f32) : all4 x = x := window_full x _ _

section
variable {κ : Kind} {sp : Space}

/-- The whole rectangle of a column. -/
abbrev r1 : Rect S1024x1 := Rect.unit ![0, 0] S1024x1.size inb_S1024x1_S1024x1_0_0
/-- The whole rectangle of a pair of columns. -/
abbrev r2 : Rect S1024x2 := Rect.unit ![0, 0] S1024x2.size inb_S1024x2_S1024x2_0_0
/-- The whole rectangle of a product with `U`. -/
abbrev r64 : Rect S1024x64 := Rect.unit ![0, 0] S1024x64.size inb_S1024x64_S1024x64_0_0
/-- The first column's rectangle. -/
abbrev rc0 : Rect S1024x2 := Rect.unit ![0, 0] S1024x1.size inb_S1024x2_S1024x1_0_0
/-- The second column's rectangle. -/
abbrev rc1 : Rect S1024x2 := Rect.unit ![0, 1] S1024x1.size inb_S1024x2_S1024x1_0_1

theorem read_full1 (v : View sig κ sp S1024x1 .f32) (f : v.ty.Contents (Elt F)) (w : Vec F S1024x1 .f32) (L : List (View.Piece (Elt F) S1024x1 .f32)) :
    v.read (Elt F) (v.writes (Elt F) f (⟨r1, w⟩ :: L)) = w := View.read_writes_full v f _ w L
theorem read_full2 {e : EltTy} (v : View sig κ sp S1024x2 e) (f : v.ty.Contents (Elt F)) (w : Vec F S1024x2 e) (L : List (View.Piece (Elt F) S1024x2 e)) :
    v.read (Elt F) (v.writes (Elt F) f (⟨r2, w⟩ :: L)) = w := View.read_writes_full v f _ w L
theorem read_full64 (v : View sig κ sp S1024x64 .f32) (f : v.ty.Contents (Elt F)) (w : Vec F S1024x64 .f32) (L : List (View.Piece (Elt F) S1024x64 .f32)) :
    v.read (Elt F) (v.writes (Elt F) f (⟨r64, w⟩ :: L)) = w := View.read_writes_full v f _ w L
theorem read_full512 (v : View sig κ sp S1024x512 .f32) (f : v.ty.Contents (Elt F)) (w : Vec F S1024x512 .f32) (L : List (View.Piece (Elt F) S1024x512 .f32)) :
    v.read (Elt F) (v.writes (Elt F) f (⟨Rect.unit ![0, 0] S1024x512.size inb_S1024x512_S1024x512_0_0, w⟩ :: L)) = w := View.read_writes_full v f _ w L
/-- What two stores, into the first column and then into the second, leave. -/
theorem read_cols {e : EltTy} (v : View sig κ sp S1024x2 e) (f : v.ty.Contents (Elt F)) (w0 w1 : Vec F S1024x1 e) (L : List (View.Piece (Elt F) S1024x2 e)) :
    v.read (Elt F) (v.writes (Elt F) f (⟨rc1, w1⟩ :: ⟨rc0, w0⟩ :: L)) = cols (v.read (Elt F) (v.writes (Elt F) f L)) w0 w1 := by
  rw [read_put, read_put]
/-- The same over a store of both columns. -/
theorem read_cols_over {e : EltTy} (v : View sig κ sp S1024x2 e) (f : v.ty.Contents (Elt F)) (w0 w1 : Vec F S1024x1 e) (w : Vec F S1024x2 e) :
    v.read (Elt F) (v.writes (Elt F) f [⟨rc1, w1⟩, ⟨rc0, w0⟩, ⟨r2, w⟩]) = cols w w0 w1 := by
  rw [read_cols, read_full2]

theorem cov1 (v : View sig κ sp S1024x1 .f32) (w : Vec F S1024x1 .f32) (L : List (View.Piece (Elt F) S1024x1 .f32)) :
    v.readCov (⟨r1, w⟩ :: L) r1.toLoadRect = all1 w := (View.readCov_full v _ _ w L).trans (all1_eq w).symm
theorem cov64 (v : View sig κ sp S1024x64 .f32) (w : Vec F S1024x64 .f32) (L : List (View.Piece (Elt F) S1024x64 .f32)) :
    v.readCov (⟨r64, w⟩ :: L) r64.toLoadRect = all64 w := (View.readCov_full v _ _ w L).trans (all64_eq w).symm
theorem cov_first0 (v : View sig κ sp S1024x2 .f32) (w : Vec F S1024x2 .f32) :
    v.readCov [⟨r2, w⟩] rc0.toLoadRect = col0 w :=
  (readAt_win v _ _).trans (congrArg col0 (read_full2 v _ w _))
theorem cov_first1 (v : View sig κ sp S1024x2 .f32) (w : Vec F S1024x2 .f32) (w0 : Vec F S1024x1 .f32) :
    v.readCov [⟨rc0, w0⟩, ⟨r2, w⟩] rc1.toLoadRect = col1 w :=
  (readAt_win v _ _).trans (by rw [read_put, read_full2, col1_put0])
theorem col0_cols {e : EltTy} (x : Vec F S1024x2 e) (w0 w1 : Vec F S1024x1 e) : col0 (cols x w0 w1) = w0 :=
  (col0_put1 _ _).trans (col0_put0 _ _)
theorem col1_cols {e : EltTy} (x : Vec F S1024x2 e) (w0 w1 : Vec F S1024x1 e) : col1 (cols x w0 w1) = w1 :=
  col1_put1 _ _
theorem cov_cols0 {e : EltTy} (v : View sig κ sp S1024x2 e) (y : Vec F S1024x2 e) (w0 w1 : Vec F S1024x1 e) (L : List (View.Piece (Elt F) S1024x2 e)) :
    v.readCov (⟨rc1, w1⟩ :: ⟨rc0, w0⟩ :: L) rc0.toLoadRect = col0 (cols y w0 w1) :=
  (readAt_win v _ _).trans ((congrArg col0 (read_cols v _ w0 w1 L)).trans ((col0_cols _ w0 w1).trans (col0_cols y w0 w1).symm))
theorem cov_cols1 {e : EltTy} (v : View sig κ sp S1024x2 e) (y : Vec F S1024x2 e) (w0 w1 : Vec F S1024x1 e) (L : List (View.Piece (Elt F) S1024x2 e)) :
    v.readCov (⟨rc1, w1⟩ :: ⟨rc0, w0⟩ :: L) rc1.toLoadRect = col1 (cols y w0 w1) :=
  (readAt_win v _ _).trans ((congrArg col1 (read_cols v _ w0 w1 L)).trans ((col1_cols _ w0 w1).trans (col1_cols y w0 w1).symm))
end

/-- The thirteen scratch buffers held at the contents `s`. -/
abbrev held (c : Dev nD) (arg7 : Memref sig .tc .vmem S1024x8192 .f32) (arg8 arg9 : Memref sig .tc .vmem S1024x64 .f32)
    (arg10 arg11 : Memref sig .tc .vmem S1024x1 .f32) (arg12 arg13 arg14 : Memref sig .tc .vmem S1024x2 .f32)
    (arg15 arg16 : Memref sig .tc .vmem S1024x2 .i32) (arg17 : Memref sig .tc .vmem S1024x1 .f32)
    (arg18 : Memref sig .tc .vmem S1024x2 .f32) (arg19 : Memref sig .tc .vmem S1024x1 .f32) (s : St F) : sProp 𝕄 :=
  iprop(owns (c : Thread nD τ) arg7 fullShare s.xs ∗ owns (c : Thread nD τ) arg8 fullShare s.z ∗ owns (c : Thread nD τ) arg9 fullShare s.zd
    ∗ owns (c : Thread nD τ) arg10 fullShare s.mx ∗ owns (c : Thread nD τ) arg11 fullShare s.sm ∗ owns (c : Thread nD τ) arg12 fullShare s.bv
    ∗ owns (c : Thread nD τ) arg13 fullShare s.bw ∗ owns (c : Thread nD τ) arg14 fullShare s.bx ∗ owns (c : Thread nD τ) arg15 fullShare s.bi
    ∗ owns (c : Thread nD τ) arg16 fullShare s.pi ∗ owns (c : Thread nD τ) arg17 fullShare s.lpf ∗ owns (c : Thread nD τ) arg18 fullShare s.racc
    ∗ owns (c : Thread nD τ) arg19 fullShare s.acc)

end Cert.KernelIdeal.Body

end
-- ==== Proof.KernelIdeal.Columns.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.State
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A pair of columns is its columns -/

/-- A window reads its source at its offset. -/
theorem window_at {α : Type} {s : Shape} (x : s.Idx → α) {off size : Fin s.rank → ℕ} (inb : ∀ a, off a + size a ≤ s.size a)
    (y : (⟨s.rank, size⟩ : Shape).Idx) (j : s.Idx) (h : ∀ a, (j a).val = off a + (y a).val) : VecWindow.window x off size inb y = x j :=
  congrArg x (funext fun a => Fin.ext (by
    show off a + 1 * (y a).val = (j a).val
    rw [h a, one_mul]))
theorem col0_at {e : EltTy} (x : Vec F S1024x2 e) (b : Fin 1024) : col0 x (ix2 b 0) = x (ix2 b 0) :=
  window_at x _ _ _ (fun a => by fin_cases a <;> simp)
theorem col1_at {e : EltTy} (x : Vec F S1024x2 e) (b : Fin 1024) : col1 x (ix2 b 0) = x (ix2 b 1) :=
  window_at x _ _ _ (fun a => by fin_cases a <;> simp)

theorem ext_cols {e : EltTy} {x y : Vec F S1024x2 e} (h0 : col0 x = col0 y) (h1 : col1 x = col1 y) : x = y := by
  funext j
  idx_vars j
  have a0 : x (ix2 j0 0) = y (ix2 j0 0) := (col0_at x j0).symm.trans ((congrFun h0 _).trans (col0_at y j0))
  have a1 : x (ix2 j0 1) = y (ix2 j0 1) := (col1_at x j0).symm.trans ((congrFun h1 _).trans (col1_at y j0))
  rcases (by omega : j1.val = 0 ∨ j1.val = 1) with h | h
  · obtain rfl : j1 = 0 := Fin.ext h
    exact a0
  · obtain rfl : j1 = 1 := Fin.ext h
    exact a1

/-- What was there before does not matter once both columns are replaced. -/
theorem cols_any {e : EltTy} (x y : Vec F S1024x2 e) (w0 w1 : Vec F S1024x1 e) : cols x w0 w1 = cols y w0 w1 :=
  ext_cols ((col0_cols x w0 w1).trans (col0_cols y w0 w1).symm) ((col1_cols x w0 w1).trans (col1_cols y w0 w1).symm)

end Cert.KernelIdeal.Body

end
-- ==== Proof.KernelIdeal.Rows.lean ====
module

public import proofs.«01_k».proof.Proof.KernelIdeal.Columns
public import proofs.«01_k».proof.Proof.Chain

@[expose] public section

set_option maxRecDepth 16384

noncomputable section

namespace Cert.KernelIdeal.Rows

open Cert.KernelIdeal Cert.KernelIdeal.Gen Cert.KernelIdeal.Body
open Idealize.ShloMosaic Idealize.ShloMosaic.TcCoe
open Cert.Chain (at' below Stat Best First FirstIn)

/-! ## What the payloads are at a row -/

section
variable {i : grid0.Coords} {k : Fin 16} (hk : (i 1).val = k.val)
include hk

theorem word_at (b : Fin 1024) (c : Fin 512) : k0_pay59 i (ix2 b c) = BitVec.ofNat 32 (at' k c).val := by
  pointwise [k0_pay59]
  show BitVec.ofNat 32 c.val + BitVec.ofNat 32 (i 1).val * BitVec.ofNat 32 512 = BitVec.ofNat 32 (k.val * 512 + c.val)
  rw [← BitVec.ofNat_mul, ← BitVec.ofNat_add, hk, add_comm]

theorem off1_at : k0_off1 i 0 = 0 ∧ k0_off1 i 1 = k.val * 512 := by
  have : ∀ i : grid0.Coords, k0_off1 i 0 = 0 ∧ k0_off1 i 1 = (i 1).val * 512 := by decide +kernel
  rw [← hk]; exact this i
theorem off2_at : k0_off2 i 0 = k.val * 512 ∧ k0_off2 i 1 = 0 := by
  have : ∀ i : grid0.Coords, k0_off2 i 0 = (i 1).val * 512 ∧ k0_off2 i 1 = 0 := by decide +kernel
  rw [← hk]; exact this i
theorem off3_at : k0_off3 i 0 = 0 ∧ k0_off3 i 1 = k.val * 512 := by
  have : ∀ i : grid0.Coords, k0_off3 i 0 = 0 ∧ k0_off3 i 1 = (i 1).val * 512 := by decide +kernel
  rw [← hk]; exact this i
theorem off4_at : k0_off4 i 0 = k.val * 512 ∧ k0_off4 i 1 = 0 := by
  have : ∀ i : grid0.Coords, k0_off4 i 0 = (i 1).val * 512 ∧ k0_off4 i 1 = 0 := by decide +kernel
  rw [← hk]; exact this i
theorem off6_at : k0_off6 i 0 = 0 ∧ k0_off6 i 1 = k.val * 512 := by
  have : ∀ i : grid0.Coords, k0_off6 i 0 = 0 ∧ k0_off6 i 1 = (i 1).val * 512 := by decide +kernel
  rw [← hk]; exact this i
theorem off7_at : k0_off7 i 0 = k.val * 512 ∧ k0_off7 i 1 = 0 := by
  have : ∀ i : grid0.Coords, k0_off7 i 0 = (i 1).val * 512 ∧ k0_off7 i 1 = 0 := by decide +kernel
  rw [← hk]; exact this i
theorem off8_at : k0_off8 i 0 = 0 ∧ k0_off8 i 1 = k.val * 512 := by
  have : ∀ i : grid0.Coords, k0_off8 i 0 = 0 ∧ k0_off8 i 1 = (i 1).val * 512 := by decide +kernel
  rw [← hk]; exact this i
end

/-- A column block of the chain's state. -/
theorem block_at (x : Vec Ideal S1024x8192 .f32) {off : Fin 2 → ℕ} (inb : ∀ a, off a + S1024x512.size a ≤ S1024x8192.size a)
    {k : Fin 16} (h : off 0 = 0 ∧ off 1 = k.val * 512) (b : Fin 1024) (c : Fin 512) :
    VecWindow.window x off S1024x512.size inb (ix2 b c) = x (ix2 b (at' k c)) :=
  window_at x inb _ _ (fun a => by
    fin_cases a
    · show b.val = off 0 + b.val
      rw [h.1, zero_add]
    · show k.val * 512 + c.val = off 1 + c.val
      rw [h.2])
/-- A row block of `U`. -/
theorem rows_at (x : Vec Ideal S8192x64 .f32) {off : Fin 2 → ℕ} (inb : ∀ a, off a + S512x64.size a ≤ S8192x64.size a)
    {k : Fin 16} (h : off 0 = k.val * 512 ∧ off 1 = 0) (c : Fin 512) (r : Fin 64) :
    VecWindow.window x off S512x64.size inb (ix2 c r) = x (ix2 (at' k c) r) :=
  window_at x inb _ _ (fun a => by
    fin_cases a
    · show k.val * 512 + c.val = off 0 + c.val
      rw [h.1]
    · show r.val = off 1 + r.val
      rw [h.2, zero_add])
theorem noise0_at (g : Vec Ideal S1x2x1024x512 .f32) (b : Fin 1024) (c : Fin 512) : noise0 g (ix4 0 0 b c) = g (ix4 0 0 b c) :=
  window_at g _ _ _ (fun a => by fin_cases a <;> simp)
theorem noise1_at (g : Vec Ideal S1x2x1024x512 .f32) (b : Fin 1024) (c : Fin 512) : noise1 g (ix4 0 0 b c) = g (ix4 0 1 b c) :=
  window_at g _ _ _ (fun a => by fin_cases a <;> simp)

theorem two_le (r : ℝ) : ((1 : EReal) - ((2 : ℝ) : EReal) * (r : EReal)) = ((1 - 2 * r : ℝ) : EReal) := by norm_cast

section
variable {i : grid0.Coords} {k : Fin 16} (hk : (i 1).val = k.val) {b : Fin 1024}
include hk

/-- The pending flips of a column block. -/
theorem pay13_at {x : Vec Ideal S1024x512 .f32} {p0 p1 : Vec Ideal S1024x1 .i32} {a : Vec Ideal S1024x1 .f32} {y : Fin 8192 → ℝ} {j0 j1 : Fin 8192} {r : ℝ}
    (hx : ∀ c, x (ix2 b c) = (y (at' k c) : EReal)) (h0 : p0 (ix2 b 0) = BitVec.ofNat 32 j0.val) (h1 : p1 (ix2 b 0) = BitVec.ofNat 32 j1.val)
    (ha : a (ix2 b 0) = (r : EReal)) (c : Fin 512) :
    k0_pay13 (k0_pay59 i) x p0 p1 a (ix2 b c) = (Chain.moved y j0 j1 r (at' k c) : EReal) := by
  pointwise [k0_pay13]
  rw [hx, h0, h1, ha, word_at hk, Chain.ind_word, Chain.ind_word, Chain.ofBits_two, two_le, ← EReal.coe_sub, Chain.abs_coe]
  norm_cast
theorem pay50_at {p : Vec Ideal S1024x1 .i32} {j : Fin 8192} (h : p (ix2 b 0) = BitVec.ofNat 32 j.val) (c : Fin 512) :
    k0_pay50 (F := Ideal) (k0_pay59 i) p (ix2 b c) = (Chain.ind (at' k c) j : EReal) := by
  pointwise [k0_pay50]
  rw [h, word_at hk, Chain.ind_word]
theorem pay51_at {p : Vec Ideal S1024x1 .i32} {j : Fin 8192} (h : p (ix2 b 0) = BitVec.ofNat 32 j.val) (c : Fin 512) :
    k0_pay51 (F := Ideal) (k0_pay59 i) p (ix2 b c) = (Chain.ind (at' k c) j : EReal) := by
  pointwise [k0_pay51]
  rw [h, word_at hk, Chain.ind_word]
/-- The reverse logits of a column block. -/
theorem pay52_at {x : Vec Ideal S1024x512 .f32} {p0 p1 : Vec Ideal S1024x1 .i32} {u : Vec Ideal S512x64 .f32} {zd : Vec Ideal S1024x64 .f32}
    {y : Fin 8192 → ℝ} {j0 j1 : Fin 8192} {U : Fin 8192 → Fin 64 → ℝ} {z : Fin 64 → ℝ}
    (hx : ∀ c, x (ix2 b c) = (y (at' k c) : EReal)) (h0 : p0 (ix2 b 0) = BitVec.ofNat 32 j0.val) (h1 : p1 (ix2 b 0) = BitVec.ofNat 32 j1.val)
    (hu : ∀ c r, u (ix2 c r) = (U (at' k c) r : EReal)) (hz : ∀ r, zd (ix2 b r) = (z r : EReal)) (c : Fin 512) :
    k0_pay52 (k0_pay59 i) x p0 p1 u zd (ix2 b c) = (Chain.resp U z (Chain.moved y j0 j1 1) (at' k c) : EReal) := by
  pointwise [k0_pay52]
  rw [pay50_at hk h0, pay51_at hk h1, ← EReal.coe_sub, Chain.abs_coe]
  simp only [hx, hu, hz, Chain.ofBits_two, two_le]
  simp only [← EReal.coe_mul, Chain.coe_sum, ← EReal.coe_add]
  rw [← EReal.coe_one, ← EReal.coe_sub, ← EReal.coe_mul]
  congr 1
  unfold Chain.resp Chain.moved Chain.flip
  ring
end

section
variable {k : Fin 16} {b : Fin 1024}

theorem pay15_at {u : Vec Ideal S512x64 .f32} {zd : Vec Ideal S1024x64 .f32} {U : Fin 8192 → Fin 64 → ℝ} {z : Fin 64 → ℝ}
    (hu : ∀ c r, u (ix2 c r) = (U (at' k c) r : EReal)) (hz : ∀ r, zd (ix2 b r) = (z r : EReal)) (c : Fin 512) :
    k0_pay15 u zd (ix2 b c) = ((2 * ∑ r, z r * U (at' k c) r : ℝ) : EReal) := by
  pointwise [k0_pay15]
  simp only [hu, hz, Chain.ofBits_two]
  simp only [← EReal.coe_mul, Chain.coe_sum]

theorem pay18_at {x y : FVec Ideal S1024x512 .f32} {X Y : Fin 8192 → ℝ} (hx : ∀ c, x (ix2 b c) = (X (at' k c) : EReal)) (hy : ∀ c, y (ix2 b c) = (Y (at' k c) : EReal)) (c : Fin 512) :
    k0_pay18 x y k0_pay17 (ix2 b c) = ((X (at' k c) * (1 - Y (at' k c)) : ℝ) : EReal) := by
  pointwise [k0_pay18, k0_pay17]
  rw [hx, hy]
  norm_cast

/-- The running maximum and sum of exponentials over a further column block. -/
theorem stat_at {x y : FVec Ideal S1024x512 .f32} {m s : Vec Ideal S1024x1 .f32} {v : Fin 8192 → ℝ}
    (hv : ∀ c, k0_pay18 x y k0_pay17 (ix2 b c) = (v (at' k c) : EReal)) (h : Stat v k.val (m (ix2 b 0)) (s (ix2 b 0))) :
    Stat v (k.val + 1) (k0_pay21 x y k0_pay17 m (ix2 b 0)) (k0_pay20 x y k0_pay17 m s m (ix2 b 0)) := by
  refine h.succ ?_ ?_
  · pointwise [k0_pay21, k0_pay19]
    simp only [hv, Chain.ofBits_bot]
  · pointwise [k0_pay21, k0_pay20, k0_pay19]
    simp only [hv, Chain.ofBits_bot]

/-- The same in an accepting phase. -/
theorem statB_at {w : FVec Ideal S1024x512 .f32} {m s n : Vec Ideal S1024x1 .f32} {v : Fin 8192 → ℝ}
    (hv : ∀ c, w (ix2 b c) = (v (at' k c) : EReal)) (hn : n (ix2 b 0) = max (m (ix2 b 0)) (Finset.univ.fold max ⊥ (fun c => w (ix2 b c))))
    (h : Stat v k.val (m (ix2 b 0)) (s (ix2 b 0))) :
    Stat v (k.val + 1) (k0_pay55 (F := Ideal) n (ix2 b 0)) (k0_pay54 (F := Ideal) w n s m (ix2 b 0)) := by
  have hn' : k0_pay55 (F := Ideal) n (ix2 b 0) = n (ix2 b 0) := by pointwise [k0_pay55]
  rw [hn']
  refine h.succ ?_ ?_
  · rw [hn]; simp only [hv]
  · pointwise [k0_pay54]
    simp only [hv]
end

section
variable {i : grid0.Coords} {k : Fin 16} (hk : (i 1).val = k.val) {b : Fin 1024} {w γ xm : Fin 8192 → ℝ}
include hk

/-- The first draw's running best over a further column block. -/
theorem best0_at {x y mv : FVec Ideal S1024x512 .f32} {g : Vec Ideal S1x1x1024x512 .f32} {b0 w0 x0 : Vec Ideal S1024x1 .f32} {i0 : Vec Ideal S1024x1 .i32}
    (hw : ∀ c, k0_pay18 x y k0_pay17 (ix2 b c) = (w (at' k c) : EReal)) (hg : ∀ c, g (ix4 0 0 b c) = (γ (at' k c) : EReal))
    (hm : ∀ c, mv (ix2 b c) = (xm (at' k c) : EReal))
    (h : Best (fun d => w d + γ d) w xm k.val (b0 (ix2 b 0)) (i0 (ix2 b 0)) (w0 (ix2 b 0)) (x0 (ix2 b 0))) :
    Best (fun d => w d + γ d) w xm (k.val + 1)
      (k0_pay28 (F := Ideal) (k0_pay23 x y k0_pay17 g) (k0_pay24 x y k0_pay17 g b0) b0 (ix2 b 0))
      (k0_pay29 (F := Ideal) (k0_pay24 x y k0_pay17 g b0) (k0_pay25 (k0_pay59 i) x y k0_pay17 g) i0 (ix2 b 0))
      (k0_pay30 (F := Ideal) (k0_pay59 i) (k0_pay18 x y k0_pay17) (k0_pay24 x y k0_pay17 g b0) (k0_pay26 (k0_pay59 i) x y k0_pay17 g) w0 (ix2 b 0))
      (k0_pay31 (F := Ideal) (k0_pay59 i) mv (k0_pay24 x y k0_pay17 g b0) (k0_pay26 (k0_pay59 i) x y k0_pay17 g) x0 (ix2 b 0)) := by
  obtain ⟨j, hj, hM, hI⟩ := Chain.fold_firstIn (fun d => w d + γ d) k
  have h23 : k0_pay23 x y k0_pay17 g (ix2 b 0) = (((fun d => w d + γ d) (at' k j) : ℝ) : EReal) := by
    pointwise [k0_pay23, k0_pay22]
    simp only [hw, hg, Chain.ofBits_bot, ← EReal.coe_add]
    exact hM
  have h25 : k0_pay25 (k0_pay59 i) x y k0_pay17 g (ix2 b 0) = BitVec.ofNat 32 (at' k j).val := by
    pointwise [k0_pay25, k0_pay22]
    rw [h23]
    simp only [hw, hg, ← EReal.coe_add, word_at hk]
    exact hI
  refine h.succ hj ?_ ?_ ?_ ?_
  · pointwise [k0_pay28, k0_pay24]
    rw [h23]
  · pointwise [k0_pay29, k0_pay24]
    rw [h23, h25]
  · pointwise [k0_pay30, k0_pay27, k0_pay26, k0_pay24]
    rw [h23, h25]
    simp only [hw, word_at hk, Chain.ind_word, ← EReal.coe_mul, Chain.coe_sum, Chain.sum_ind_at]
  · pointwise [k0_pay31, k0_pay27, k0_pay26, k0_pay24]
    rw [h23, h25]
    simp only [hm, word_at hk, Chain.ind_word, ← EReal.coe_mul, Chain.coe_sum, Chain.sum_ind_at]

/-- The second draw's running best over a further column block. -/
theorem best1_at {lg mv : FVec Ideal S1024x512 .f32} {g : Vec Ideal S1x1x1024x512 .f32} {b0 w0 x0 : Vec Ideal S1024x1 .f32} {i0 : Vec Ideal S1024x1 .i32}
    (hw : ∀ c, lg (ix2 b c) = (w (at' k c) : EReal)) (hg : ∀ c, g (ix4 0 0 b c) = (γ (at' k c) : EReal))
    (hm : ∀ c, mv (ix2 b c) = (xm (at' k c) : EReal))
    (h : Best (fun d => w d + γ d) w xm k.val (b0 (ix2 b 0)) (i0 (ix2 b 0)) (w0 (ix2 b 0)) (x0 (ix2 b 0))) :
    Best (fun d => w d + γ d) w xm (k.val + 1)
      (k0_pay38 (F := Ideal) (k0_pay33 lg g) b0 b0 (ix2 b 0))
      (k0_pay39 (F := Ideal) (k0_pay59 i) (k0_pay32 lg g) (k0_pay33 lg g) b0 i0 (ix2 b 0))
      (k0_pay40 (F := Ideal) (k0_pay59 i) lg (k0_pay32 lg g) (k0_pay33 lg g) b0 w0 (ix2 b 0))
      (k0_pay1 (F := Ideal) (k0_pay41 (k0_pay59 i) mv (k0_pay32 lg g) (k0_pay33 lg g) b0 x0) (ix2 b 0)) := by
  obtain ⟨j, hj, hM, hI⟩ := Chain.fold_firstIn (fun d => w d + γ d) k
  have h33 : k0_pay33 lg g (ix1 b) = (((fun d => w d + γ d) (at' k j) : ℝ) : EReal) := by
    pointwise [k0_pay33, k0_pay32]
    simp only [hw, hg, Chain.ofBits_bot, ← EReal.coe_add]
    exact hM
  have h36 : k0_pay36 (k0_pay59 i) (k0_pay32 lg g) (k0_pay33 lg g) (ix2 b 0) = BitVec.ofNat 32 (at' k j).val := by
    pointwise [k0_pay36, k0_pay34, k0_pay32]
    rw [h33]
    simp only [hw, hg, ← EReal.coe_add, word_at hk]
    exact hI
  refine h.succ hj ?_ ?_ ?_ ?_
  · pointwise [k0_pay38, k0_pay35, k0_pay34]
    rw [h33]
  · pointwise [k0_pay39, k0_pay35, k0_pay34]
    rw [h33, h36]
  · pointwise [k0_pay40, k0_pay37, k0_pay35, k0_pay34]
    rw [h33, h36]
    simp only [hw, word_at hk, Chain.ind_word, ← EReal.coe_mul, Chain.coe_sum, Chain.sum_ind_at]
  · pointwise [k0_pay1, k0_pay41, k0_pay37, k0_pay35, k0_pay34]
    rw [h33, h36]
    simp only [hm, word_at hk, Chain.ind_word, ← EReal.coe_mul, Chain.coe_sum, Chain.sum_ind_at]
end

/-! ## The loop over `U`'s row blocks -/

theorem iv_eq : ∀ k : Fin k0_t1_loop.trips, Scf.iv 0#32 1#32 k = BitVec.ofNat 32 k.val := by decide +kernel
theorem off5_at : ∀ k : Fin k0_t1_loop.trips, k0_off5 k 0 = k.val * 512 ∧ k0_off5 k 1 = 0 := by decide +kernel
theorem trips_eq : k0_t1_loop.trips = 16 := by decide +kernel

section
variable {b : Fin 1024} {u : Vec Ideal S8192x64 .f32} {U : Fin 8192 → Fin 64 → ℝ} {i0 i1 : Vec Ideal S1024x1 .i32} {x0 x1 : Vec Ideal S1024x1 .f32}
  {j0 j1 : Fin 8192} {r0 r1 : ℝ}
  (hu : ∀ d r, u (ix2 d r) = (U d r : EReal)) (h0 : i0 (ix2 b 0) = BitVec.ofNat 32 j0.val) (h1 : i1 (ix2 b 0) = BitVec.ofNat 32 j1.val)
  (hx0 : x0 (ix2 b 0) = (r0 : EReal)) (hx1 : x1 (ix2 b 0) = (r1 : EReal))
include h0 h1 hx0 hx1

theorem pay7_at : k0_pay7 i0 i1 x0 (ix2 b 0) = (((if j0 = j1 then 0 else 1) * (1 - 2 * r0) : ℝ) : EReal) := by
  pointwise [k0_pay7, k0_pay6]
  rw [h0, h1, hx0, Chain.ne_word, Chain.ofBits_two, two_le, ← EReal.coe_mul]
theorem pay8_at : k0_pay8 i0 i1 x1 (ix2 b 0) = (((if j0 = j1 then 0 else 1) * (1 - 2 * r1) : ℝ) : EReal) := by
  pointwise [k0_pay8, k0_pay6]
  rw [h0, h1, hx1, Chain.ne_word, Chain.ofBits_two, two_le, ← EReal.coe_mul]

include hu
/-- What the loop has added before trip `n`. -/
theorem added_at (n : ℕ) (hn : n ≤ 16) (r : Fin 64) : added u i0 i1 x0 x1 n (ix2 b r)
    = (below (fun d => ((if j0 = j1 then 0 else 1) * (1 - 2 * r0) * Chain.ind d j0 + (if j0 = j1 then 0 else 1) * (1 - 2 * r1) * Chain.ind d j1) * U d r) n : EReal) := by
  induction n with
  | zero =>
    rw [Chain.below_zero]
    show k0_pay9 (F := Ideal) (ix2 b r) = _
    pointwise [k0_pay9]
    exact EReal.coe_zero.symm
  | succ n ih =>
    have hlt : n < k0_t1_loop.trips := by rw [trips_eq]; omega
    have hs : added u i0 i1 x0 x1 (n + 1) = trip u i0 i1 x0 x1 ⟨n, hlt⟩ (added u i0 i1 x0 x1 n) := by
      rw [added, dif_pos hlt]
    have hw : ∀ c : Fin 512, IntOp.addi (BitVec.ofNat 32 c.val) (Scalar.muli (Scf.iv 0#32 1#32 (⟨n, hlt⟩ : Fin k0_t1_loop.trips)) 512#32)
        = BitVec.ofNat 32 (at' ⟨n, hn⟩ c).val := fun c => by
      rw [iv_eq]
      show BitVec.ofNat 32 c.val + BitVec.ofNat 32 n * BitVec.ofNat 32 512 = BitVec.ofNat 32 (n * 512 + c.val)
      rw [← BitVec.ofNat_mul, ← BitVec.ofNat_add, add_comm]
    rw [hs, show n + 1 = (⟨n, hn⟩ : Fin 16).val + 1 from rfl, Chain.below_succ]
    unfold trip
    pointwise [k0_pay2]
    rw [ih (by omega)]
    simp only [pay7_at h0 h1 hx0 hx1, pay8_at h0 h1 hx0 hx1, h0, h1, hw, Chain.ind_word, rows_at u _ (k := ⟨n, hn⟩) (off5_at ⟨n, hlt⟩), hu,
      ← EReal.coe_mul, ← EReal.coe_add, Chain.coe_sum]
end

/-! ## The ends of the phases -/

section
variable {b : Fin 1024}

/-- The log-probability of the two draws. -/
theorem pay5_at {m s w0 w1 : Vec Ideal S1024x1 .f32} {v : Fin 8192 → ℝ} {j0 j1 : Fin 8192} (h : Stat v 16 (m (ix2 b 0)) (s (ix2 b 0)))
    (h0 : w0 (ix2 b 0) = (v j0 : EReal)) (h1 : w1 (ix2 b 0) = (v j1 : EReal)) :
    k0_pay5 m s w0 w1 (ix2 b 0) = (Chain.logp v j0 j1 : EReal) := by
  pointwise [k0_pay5]
  rw [h.lse, h0, h1, Chain.ofBits_two]
  unfold Chain.logp
  norm_cast

/-- The logarithm of the acceptance ratio. -/
theorem pay42_at {m s r0 r1 l : Vec Ideal S1024x1 .f32} {z zd : Vec Ideal S1024x64 .f32} {U : Fin 8192 → Fin 64 → ℝ} {x : Fin 8192 → ℝ} {j0 j1 : Fin 8192}
    (h : Stat (Chain.logit U (Chain.moved x j0 j1 1)) 16 (m (ix2 b 0)) (s (ix2 b 0)))
    (h0 : r0 (ix2 b 0) = (Chain.logit U (Chain.moved x j0 j1 1) j0 : EReal)) (h1 : r1 (ix2 b 0) = (Chain.logit U (Chain.moved x j0 j1 1) j1 : EReal))
    (hz : ∀ r, z (ix2 b r) = (Chain.prod U x r : EReal)) (hzd : ∀ r, zd (ix2 b r) = (Chain.prod U (Chain.moved x j0 j1 1) r : EReal))
    (hl : l (ix2 b 0) = (Chain.logp (Chain.logit U x) j0 j1 : EReal)) :
    k0_pay42 m s r0 r1 zd zd z z l (ix2 b 0) = (Chain.ratio U x j0 j1 : EReal) := by
  pointwise [k0_pay42]
  rw [h.lse, h0, h1, hl, Chain.ofBits_two]
  simp only [hz, hzd, ← EReal.coe_mul, Chain.coe_sum]
  unfold Chain.ratio
  rw [Chain.logp]
  norm_cast
end

/-- Which step of the chain an accepting phase belongs to, as a word. -/
def stepWord (i : grid0.Coords) : BitVec 32 :=
  Scalar.select (Scalar.andi (Scalar.cmpi .ne (phaseSign i) (Scalar.subi (Scalar.extui (Scalar.cmpi .sgt 2#32 0#32)) (Scalar.extui (Scalar.cmpi .slt 2#32 0#32))))
      (Scalar.cmpi .ne (Scalar.remsi (phase i) 2#32) 0#32))
    (Scalar.subi (Scalar.divsi (phase i) 2#32) 1#32) (Scalar.divsi (phase i) 2#32)
theorem stepWord_eq : ∀ i : grid0.Coords, ∀ t : Fin 4, (i 0).val = 2 * t.val + 2 → stepWord i = BitVec.ofNat 32 t.val := by decide +kernel

theorem ind4 : ∀ q t : Fin 4, BitVec.setWidth 32 (IntOp.cmpi CmpIPredicate.eq (BitVec.ofNat 32 q.val) (BitVec.ofNat 32 t.val)) = if q = t then 1#32 else 0#32 := by
  decide

/-- Whether the move is taken. -/
theorem pay43_at {i : grid0.Coords} {t : Fin 4} (ht : (i 0).val = 2 * t.val + 2) {b : Fin 1024} {l : FVec Ideal S1024x1 .f32} {a : Vec Ideal S1024x4 .f32} {ρ : ℝ}
    (hl : l (ix2 b 0) = (ρ : EReal)) :
    k0_pay43 l (phase i) 2#32 (Scalar.divsi (phase i) 2#32) (phaseSign i) (Scalar.extui (Scalar.cmpi .sgt 2#32 0#32)) 0#32 a (ix2 b 0)
      = ((if a (ix2 b t) < ((Real.exp ρ : ℝ) : EReal) then 1 else 0 : ℝ) : EReal) := by
  pointwise [k0_pay43]
  rw [show Scalar.select (Scalar.andi (Scalar.cmpi .ne (phaseSign i) (Scalar.subi (Scalar.extui (Scalar.cmpi .sgt 2#32 0#32)) (Scalar.extui (Scalar.cmpi .slt 2#32 0#32))))
      (Scalar.cmpi .ne (Scalar.remsi (phase i) 2#32) 0#32))
    (Scalar.subi (Scalar.divsi (phase i) 2#32) 1#32) (Scalar.divsi (phase i) 2#32) = BitVec.ofNat 32 t.val from stepWord_eq i t ht]
  have h4 : ∀ x : Fin 4, FloatOps.sitofp (F := Ideal) .f32 (BitVec.setWidth 32 (IntOp.cmpi CmpIPredicate.eq (BitVec.ofNat 32 x.val) (BitVec.ofNat 32 t.val)))
      = if x = t then (1 : EReal) else 0 := fun x => by
    rw [ind4]
    by_cases h : x = t
    · rw [if_pos h, if_pos h]
      show (((1#32 : BitVec 32).toInt : ℝ) : EReal) = 1
      rw [show (1#32 : BitVec 32).toInt = 1 by decide]; norm_num
    · rw [if_neg h, if_neg h]
      show (((0#32 : BitVec 32).toInt : ℝ) : EReal) = 0
      rw [show (0#32 : BitVec 32).toInt = 0 by decide]; norm_num
  simp only [h4, mul_ite, mul_one, mul_zero, Finset.sum_ite_eq', Finset.mem_univ, if_true]
  rw [hl, Ideal.exp_coe, Chain.sitofp_bit]
theorem pay44_at {i : grid0.Coords} {t : Fin 4} (ht : (i 0).val = 2 * t.val + 2) {b : Fin 1024} {l : FVec Ideal S1024x1 .f32} {a : Vec Ideal S1024x4 .f32} {ρ : ℝ}
    (hl : l (ix2 b 0) = (ρ : EReal)) :
    k0_pay44 l (phase i) 2#32 (Scalar.divsi (phase i) 2#32) (phaseSign i) (Scalar.extui (Scalar.cmpi .sgt 2#32 0#32)) 0#32 a (ix2 b 0)
      = ((if a (ix2 b t) < ((Real.exp ρ : ℝ) : EReal) then 1 else 0 : ℝ) : EReal) := by
  pointwise [k0_pay44]
  exact pay43_at ht hl
/-- The product of the state with `U` after the move. -/
theorem pay58_at {i : grid0.Coords} {t : Fin 4} (ht : (i 0).val = 2 * t.val + 2) {b : Fin 1024} {l : FVec Ideal S1024x1 .f32} {a : Vec Ideal S1024x4 .f32} {ρ : ℝ}
    (hl : l (ix2 b 0) = (ρ : EReal)) {z zd : Vec Ideal S1024x64 .f32} {p q : Fin 64 → ℝ}
    (hz : ∀ r, z (ix2 b r) = (p r : EReal)) (hzd : ∀ r, zd (ix2 b r) = (q r : EReal)) (r : Fin 64) :
    k0_pay58 (k0_pay46 l (phase i) 2#32 (Scalar.divsi (phase i) 2#32) (phaseSign i) (Scalar.extui (Scalar.cmpi .sgt 2#32 0#32)) 0#32 a z zd) (ix2 b r)
      = ((p r * (1 - if a (ix2 b t) < ((Real.exp ρ : ℝ) : EReal) then 1 else 0) + q r * (if a (ix2 b t) < ((Real.exp ρ : ℝ) : EReal) then 1 else 0) : ℝ) : EReal) := by
  pointwise [k0_pay58, k0_pay46]
  rw [pay43_at ht hl, hz, hzd]
  norm_cast

/-! ## Stores of a column block -/

theorem blocks_inb (k : Fin 16) : ∀ a, (![0, k.val * 512] : Fin 2 → ℕ) a + S1024x512.size a ≤ S1024x8192.size a := by
  intro a; fin_cases a
  · show 0 + 1024 ≤ 1024
    omega
  · show k.val * 512 + 512 ≤ 8192
    omega
/-- A store of a column block is read back. -/
theorem put_at (x : Vec Ideal S1024x8192 .f32) (w : Vec Ideal S1024x512 .f32) {off : Fin 2 → ℕ}
    (inb : ∀ a, off a + S1024x512.size a ≤ S1024x8192.size a) {k : Fin 16} (h : off 0 = 0 ∧ off 1 = k.val * 512) (b : Fin 1024) (c : Fin 512) :
    VecWindow.put x off S1024x512.size w (ix2 b (at' k c)) = w (ix2 b c) :=
  (block_at _ inb h b c).symm.trans (congrFun (VecWindow.window_put_same x off S1024x512.size inb w) (ix2 b c))
/-- The other column blocks are as they were. -/
theorem put_off (x : Vec Ideal S1024x8192 .f32) (w : Vec Ideal S1024x512 .f32) {off : Fin 2 → ℕ}
    (inb : ∀ a, off a + S1024x512.size a ≤ S1024x8192.size a) {k q : Fin 16} (h : off 0 = 0 ∧ off 1 = k.val * 512) (hq : q ≠ k) (b : Fin 1024) (c : Fin 512) :
    VecWindow.put x off S1024x512.size w (ix2 b (at' q c)) = x (ix2 b (at' q c)) := by
  have hv : q.val ≠ k.val := fun e => hq (Fin.ext e)
  exact (block_at _ (blocks_inb q) ⟨rfl, rfl⟩ b c).symm.trans ((congrFun (VecWindow.window_put_of_disjoint x _ _ _ _ (blocks_inb q) w 1 (by
    show q.val * 512 + 512 ≤ off 1 ∨ off 1 + 512 ≤ q.val * 512
    rw [h.2]; omega)) (ix2 b c)).trans (block_at _ (blocks_inb q) ⟨rfl, rfl⟩ b c))

theorem cols_at0 {e : EltTy} (x : Vec Ideal S1024x2 e) (w0 w1 : Vec Ideal S1024x1 e) (b : Fin 1024) : cols x w0 w1 (ix2 b 0) = w0 (ix2 b 0) :=
  (col0_at _ b).symm.trans (congrFun (col0_cols x w0 w1) _)
theorem cols_at1 {e : EltTy} (x : Vec Ideal S1024x2 e) (w0 w1 : Vec Ideal S1024x1 e) (b : Fin 1024) : cols x w0 w1 (ix2 b 1) = w1 (ix2 b 0) :=
  (col1_at _ b).symm.trans (congrFun (col1_cols x w0 w1) _)

end Cert.KernelIdeal.Rows
-- ==== Proof.KernelIdeal.Phases.lean ====
module

public import proofs.«01_k».proof.Proof.KernelIdeal.Rows

@[expose] public section

set_option maxRecDepth 16384

noncomputable section

namespace Cert.KernelIdeal.Phases

open Cert.KernelIdeal Cert.KernelIdeal.Gen Cert.KernelIdeal.Body Cert.KernelIdeal.Rows
open Idealize.ShloMosaic Idealize.ShloMosaic.TcCoe
open Cert.Chain (at' below Stat Best First FirstIn prod resp moved logp ratio taken step draw pick ind)

/-! ## What the scratch buffers hold in the chain `b`, phase by phase -/

/-- The state `X`, from column block `k` on with the flips of the previous step still to be applied. -/
def Pend (X : Fin 8192 → ℝ) (b : Fin 1024) (k : ℕ) (s : St Ideal) : Prop :=
  ∃ (y : Fin 8192 → ℝ) (j0 j1 : Fin 8192) (a : ℝ), s.pi (ix2 b 0) = BitVec.ofNat 32 j0.val ∧ s.pi (ix2 b 1) = BitVec.ofNat 32 j1.val
    ∧ s.acc (ix2 b 0) = (a : EReal) ∧ (∀ d, k * 512 ≤ d.val → s.xs (ix2 b d) = (y d : EReal) ∧ moved y j0 j1 a d = X d)
    ∧ ∀ d, d.val < k * 512 → s.xs (ix2 b d) = (X d : EReal)

/-- The loading phase before column block `k`. -/
def Load (U : Fin 8192 → Fin 64 → ℝ) (X : Fin 8192 → ℝ) (b : Fin 1024) (k : ℕ) (s : St Ideal) : Prop :=
  (∀ d, d.val < k * 512 → s.xs (ix2 b d) = (X d : EReal)) ∧ (∀ r, s.z (ix2 b r) = (below (fun d => X d * U d r) k : EReal))
    ∧ s.acc (ix2 b 0) = ((0 : ℝ) : EReal) ∧ s.pi (ix2 b 0) = 0#32 ∧ s.pi (ix2 b 1) = 0#32

/-- Before a proposing phase, or before the writing phase. -/
def Start (U : Fin 8192 → Fin 64 → ℝ) (X : Fin 8192 → ℝ) (b : Fin 1024) (s : St Ideal) : Prop :=
  (∀ r, s.z (ix2 b r) = (prod U X r : EReal)) ∧ Pend X b 0 s

/-- A proposing phase before column block `k`. -/
def Prop' (U : Fin 8192 → Fin 64 → ℝ) (X : Fin 8192 → ℝ) (g : Fin 2 → Fin 8192 → ℝ) (b : Fin 1024) (k : ℕ) (s : St Ideal) : Prop :=
  (∀ r, s.z (ix2 b r) = (prod U X r : EReal)) ∧ Pend X b k s ∧ Stat (Chain.logit U X) k (s.mx (ix2 b 0)) (s.sm (ix2 b 0))
    ∧ Best (fun d => Chain.logit U X d + g 0 d) (Chain.logit U X) X k (s.bv (ix2 b 0)) (s.bi (ix2 b 0)) (s.bw (ix2 b 0)) (s.bx (ix2 b 0))
    ∧ Best (fun d => Chain.logit U X d + g 1 d) (Chain.logit U X) X k (s.bv (ix2 b 1)) (s.bi (ix2 b 1)) (s.bw (ix2 b 1)) (s.bx (ix2 b 1))

/-- Between a proposing and an accepting phase, the coordinates `i` and `j` drawn. -/
def Mid (U : Fin 8192 → Fin 64 → ℝ) (X : Fin 8192 → ℝ) (i j : Fin 8192) (b : Fin 1024) (s : St Ideal) : Prop :=
  (∀ r, s.z (ix2 b r) = (prod U X r : EReal)) ∧ (∀ d, s.xs (ix2 b d) = (X d : EReal)) ∧ (∀ r, s.zd (ix2 b r) = (prod U (moved X i j 1) r : EReal))
    ∧ s.bi (ix2 b 0) = BitVec.ofNat 32 i.val ∧ s.bi (ix2 b 1) = BitVec.ofNat 32 j.val
    ∧ s.lpf (ix2 b 0) = (logp (Chain.logit U X) i j : EReal)

/-- An accepting phase before column block `k`. -/
def Acc (U : Fin 8192 → Fin 64 → ℝ) (X : Fin 8192 → ℝ) (i j : Fin 8192) (b : Fin 1024) (k : ℕ) (s : St Ideal) : Prop :=
  Mid U X i j b s ∧ Stat (Chain.logit U (moved X i j 1)) k (s.mx (ix2 b 0)) (s.sm (ix2 b 0))
    ∧ s.racc (ix2 b 0) = (below (fun d => Chain.logit U (moved X i j 1) d * ind d i) k : EReal)
    ∧ s.racc (ix2 b 1) = (below (fun d => Chain.logit U (moved X i j 1) d * ind d j) k : EReal)

/-- The name of minus infinity denotes it. -/
theorem mask_eq : Named.named (F := Ideal) (φ := .f32) κ "mask" 0xF149F2CA#32 = (⊥ : EReal) := by
  first | rfl | exact (by simp [κ])

section
variable {U : Fin 8192 → Fin 64 → ℝ} {X : Fin 8192 → ℝ} {b : Fin 1024} {s : St Ideal}

theorem lt_block {k : Fin 16} {q : Fin 16} {c : Fin 512} (h : (at' q c).val < (k.val + 1) * 512) : q = k ∨ (at' q c).val < k.val * 512 := by
  have e : (at' q c).val = q.val * 512 + c.val := rfl
  rcases Nat.lt_trichotomy q.val k.val with h' | h' | h'
  · right; omega
  · left; exact Fin.ext h'
  · omega
theorem le_block {k : Fin 16} (c : Fin 512) : k.val * 512 ≤ (at' k c).val := Nat.le_add_right _ _
theorem ne_block {k q : Fin 16} {c : Fin 512} (h : (at' q c).val < k.val * 512) : q ≠ k := fun e => by
  subst e; exact absurd (le_block c) (not_le.2 h)
theorem ne_block' {k q : Fin 16} {c : Fin 512} (h : (k.val + 1) * 512 ≤ (at' q c).val) : q ≠ k := fun e => by
  subst e
  have e : (at' q c).val = q.val * 512 + c.val := rfl
  omega

/-! ### Loading -/

theorem load_init (s : St Ideal) : Load U X b 0 (initL s) := by
  refine ⟨fun d h => absurd h (by omega), fun r => ?_, ?_, ?_, ?_⟩
  · rw [Chain.below_zero]
    show k0_pay60 (F := Ideal) (ix2 b r) = _
    pointwise [k0_pay60]
    exact EReal.coe_zero.symm
  · show k0_pay61 (F := Ideal) (ix2 b 0) = _
    pointwise [k0_pay61]
    exact EReal.coe_zero.symm
  · show k0_pay62 (ix2 b 0) = _
    pointwise [k0_pay62]
  · show k0_pay62 (ix2 b 1) = _
    pointwise [k0_pay62]

theorem load_step {i : grid0.Coords} {k : Fin 16} (hk : (i 1).val = k.val) {x : Vec Ideal S1024x512 .f32} {u : Vec Ideal S8192x64 .f32}
    (hx : ∀ c, x (ix2 b c) = (X (at' k c) : EReal)) (hu : ∀ d r, u (ix2 d r) = (U d r : EReal)) (h : Load U X b k.val s) :
    Load U X b (k.val + 1) (stepL i x u s) := by
  obtain ⟨hxs, hz, ha, h0, h1⟩ := h
  refine ⟨fun d hd => ?_, fun r => ?_, ha, h0, h1⟩
  · obtain ⟨q, c, rfl⟩ := Chain.at'_surj d
    show VecWindow.put s.xs (k0_off1 i) S1024x512.size (k0_pay63 (all512 x)) (ix2 b (at' q c)) = _
    rcases lt_block hd with rfl | hlt
    · rw [put_at s.xs _ (off1_inb i) (off1_at hk)]
      pointwise [k0_pay63]
      rw [all512_eq]; exact hx c
    · rw [put_off s.xs _ (off1_inb i) (off1_at hk) (ne_block hlt)]
      exact hxs _ hlt
  · show k0_pay64 (all512 x) (VecWindow.window u (k0_off2 i) S512x64.size (off2_inb i)) (all64 s.z) (ix2 b r) = _
    rw [all512_eq, all64_eq, Chain.below_succ]
    pointwise [k0_pay64]
    simp only [hz, hx, rows_at u (off2_inb i) (off2_at hk), hu, ← EReal.coe_mul, Chain.coe_sum, ← EReal.coe_add]

theorem load_end (h : Load U X b 16 s) : Start U X b s := by
  obtain ⟨hxs, hz, ha, h0, h1⟩ := h
  refine ⟨fun r => by rw [hz, Chain.below_all]; rfl, X, 0, 0, 0, h0, h1, ha, fun d _ => ⟨hxs d (by omega), congrFun (Chain.moved_zero X 0 0) d⟩,
    fun d h => absurd h (by omega)⟩

/-! ### Proposing -/

theorem moved_at {i : grid0.Coords} {k : Fin 16} (hk : (i 1).val = k.val) (h : Pend X b k.val s) (c : Fin 512) :
    Body.moved i s (ix2 b c) = (X (at' k c) : EReal) := by
  obtain ⟨y, j0, j1, a, h0, h1, ha, hge, -⟩ := h
  rw [← (hge _ (le_block c)).2]
  refine pay13_at hk (fun c => ?_) ((col0_at _ b).trans h0) ((col1_at _ b).trans h1) ((congrFun (all1_eq s.acc) _).trans ha) c
  rw [block_at s.xs (off3_inb i) (off3_at hk)]
  exact (hge _ (le_block c)).1

theorem twice_at {i : grid0.Coords} {k : Fin 16} (hk : (i 1).val = k.val) (h : Pend X b k.val s) (c : Fin 512) :
    Body.twice i s (ix2 b c) = ((2 * X (at' k c) : ℝ) : EReal) := by
  have hm := moved_at hk h c
  unfold Body.moved at hm
  unfold Body.twice
  pointwise [k0_pay16]
  rw [hm, Chain.ofBits_two]
  norm_cast

theorem logit_at {i : grid0.Coords} {k : Fin 16} (hk : (i 1).val = k.val) {u : Vec Ideal S8192x64 .f32} (hu : ∀ d r, u (ix2 d r) = (U d r : EReal))
    (hz : ∀ r, s.z (ix2 b r) = (prod U X r : EReal)) (h : Pend X b k.val s) (c : Fin 512) :
    k0_pay18 (Body.resp i u s) (Body.twice i s) k0_pay17 (ix2 b c) = (Chain.logit U X (at' k c) : EReal) :=
  pay18_at (X := fun d => 2 * ∑ r, prod U X r * U d r) (Y := fun d => 2 * X d)
    (fun c => pay15_at (fun c r => (rows_at u (off4_inb i) (off4_at hk) c r).trans (hu _ r)) (fun r => (congrFun (all64_eq s.z) _).trans (hz r)) c)
    (twice_at hk h) c

theorem prop_init {g : Fin 2 → Fin 8192 → ℝ} (h : Start U X b s) : Prop' U X g b 0 (initA s) := by
  obtain ⟨hz, hp⟩ := h
  refine ⟨hz, hp, ?_, ?_, ?_⟩
  · have e0 : (initA s).mx (ix2 b 0) = (⊥ : EReal) := by
      show k0_pay10 (F := Ideal) (ix2 b 0) = _
      pointwise [k0_pay10]
      exact mask_eq
    have e1 : (initA s).sm (ix2 b 0) = (0 : EReal) := by
      show k0_pay11 (F := Ideal) (ix2 b 0) = _
      pointwise [k0_pay11]
    rw [e0, e1]; exact Stat.zero _
  · have e0 : (initA s).bv (ix2 b 0) = (⊥ : EReal) := by
      show k0_pay12 (F := Ideal) (ix2 b 0) = _
      pointwise [k0_pay12]
      exact mask_eq
    rw [e0]; exact Best.zero _ _ _ _ _ _
  · have e0 : (initA s).bv (ix2 b 1) = (⊥ : EReal) := by
      show k0_pay12 (F := Ideal) (ix2 b 1) = _
      pointwise [k0_pay12]
      exact mask_eq
    rw [e0]; exact Best.zero _ _ _ _ _ _

theorem pend_step {i : grid0.Coords} {k : Fin 16} (hk : (i 1).val = k.val) {s' : St Ideal} (h : Pend X b k.val s) (hpi : s'.pi = s.pi) (hacc : s'.acc = s.acc)
    (hxs : s'.xs = VecWindow.put s.xs (k0_off3 i) S1024x512.size
      (k0_pay14 (k0_pay59 i) (VecWindow.window s.xs (k0_off3 i) S1024x512.size (off3_inb i)) (col0 s.pi) (col1 s.pi) (all1 s.acc))) :
    Pend X b (k.val + 1) s' := by
  have hm := moved_at hk h
  obtain ⟨y, j0, j1, a, h0, h1, ha, hge, hlt⟩ := h
  refine ⟨y, j0, j1, a, by rw [hpi]; exact h0, by rw [hpi]; exact h1, by rw [hacc]; exact ha, fun d hd => ?_, fun d hd => ?_⟩
  · obtain ⟨q, c, rfl⟩ := Chain.at'_surj d
    rw [hxs, put_off s.xs _ (off3_inb i) (off3_at hk) (ne_block' hd)]
    exact hge _ (le_trans (Nat.mul_le_mul_right _ (Nat.le_succ _)) hd)
  · obtain ⟨q, c, rfl⟩ := Chain.at'_surj d
    rw [hxs]
    rcases lt_block hd with rfl | hlt'
    · rw [put_at s.xs _ (off3_inb i) (off3_at hk)]
      pointwise [k0_pay14]
      exact hm c
    · rw [put_off s.xs _ (off3_inb i) (off3_at hk) (ne_block hlt')]
      exact hlt _ hlt'

theorem prop_step {g : Fin 2 → Fin 8192 → ℝ} {i : grid0.Coords} {k : Fin 16} (hk : (i 1).val = k.val) {u : Vec Ideal S8192x64 .f32}
    {n : Vec Ideal S1x2x1024x512 .f32} (hu : ∀ d r, u (ix2 d r) = (U d r : EReal)) (hn : ∀ q c, n (ix4 0 q b c) = (g q (at' k c) : EReal))
    (h : Prop' U X g b k.val s) : Prop' U X g b (k.val + 1) (stepA i u n s) := by
  obtain ⟨hz, hp, hs, hb0, hb1⟩ := h
  have hl := logit_at hk hu hz hp
  have hm := moved_at hk hp
  refine ⟨hz, pend_step hk hp rfl rfl rfl, ?_, ?_, ?_⟩
  · refine stat_at (m := all1 s.mx) (s := all1 s.sm) hl ?_
    rw [all1_eq, all1_eq]; exact hs
  · have := best0_at hk (g := noise0 n) (b0 := col0 s.bv) (w0 := col0 s.bw) (x0 := col0 s.bx) (i0 := col0 s.bi) hl
      (fun c => (noise0_at n b c).trans (hn 0 c)) hm (by rw [col0_at, col0_at, col0_at, col0_at]; exact hb0)
    unfold stepA stepAw best0 Body.logit
    dsimp only
    rw [cols_at0, cols_at0, cols_at0, cols_at0]
    exact this
  · have := best1_at hk (g := noise1 n) (b0 := col1 s.bv) (w0 := col1 s.bw) (x0 := col1 s.bx) (i0 := col1 s.bi) hl
      (fun c => (noise1_at n b c).trans (hn 1 c)) hm (by rw [col1_at, col1_at, col1_at, col1_at]; exact hb1)
    unfold stepA stepAw best0 Body.logit
    dsimp only
    rw [cols_at1, cols_at1, cols_at1, cols_at1]
    exact this

theorem prop_end {g : Fin 2 → Fin 8192 → ℝ} {u : Vec Ideal S8192x64 .f32} (hu : ∀ d r, u (ix2 d r) = (U d r : EReal)) (h : Prop' U X g b 16 s) :
    Mid U X (draw U X (g 0)) (draw U X (g 1)) b (finA u s) := by
  obtain ⟨hz, hp, hs, hb0, hb1⟩ := h
  obtain ⟨hi0, hw0, hx0⟩ := hb0.all
  obtain ⟨hi1, hw1, hx1⟩ := hb1.all
  obtain ⟨y, j0, j1, a, -, -, -, -, hxs⟩ := hp
  refine ⟨hz, fun d => hxs d (by omega), fun r => ?_, hi0, hi1, ?_⟩
  · show k0_pay3 (added u (col0 s.bi) (col1 s.bi) (col0 s.bx) (col1 s.bx) k0_t1_loop.trips) (all64 s.z) (ix2 b r) = _
    rw [all64_eq, trips_eq]
    pointwise [k0_pay3]
    rw [hz, added_at hu ((col0_at _ b).trans hi0) ((col1_at _ b).trans hi1) ((col0_at _ b).trans hx0) ((col1_at _ b).trans hx1) 16 le_rfl r,
      Chain.below_all, ← EReal.coe_add, Chain.prod_add]
    rfl
  · exact pay5_at (m := all1 s.mx) (s := all1 s.sm) (by rw [all1_eq, all1_eq]; exact hs) ((col0_at _ b).trans hw0) ((col1_at _ b).trans hw1)

/-! ### Accepting -/

theorem acc_init {i j : Fin 8192} (h : Mid U X i j b s) : Acc U X i j b 0 (initB s) := by
  refine ⟨h, ?_, ?_, ?_⟩
  · have e0 : (initB s).mx (ix2 b 0) = (⊥ : EReal) := by
      show k0_pay47 (F := Ideal) (ix2 b 0) = _
      pointwise [k0_pay47]
      exact mask_eq
    have e1 : (initB s).sm (ix2 b 0) = (0 : EReal) := by
      show k0_pay48 (F := Ideal) (ix2 b 0) = _
      pointwise [k0_pay48]
    rw [e0, e1]; exact Stat.zero _
  · rw [Chain.below_zero]
    show k0_pay49 (F := Ideal) (ix2 b 0) = _
    pointwise [k0_pay49]
    exact EReal.coe_zero.symm
  · rw [Chain.below_zero]
    show k0_pay49 (F := Ideal) (ix2 b 1) = _
    pointwise [k0_pay49]
    exact EReal.coe_zero.symm

theorem acc_step {i : grid0.Coords} {k : Fin 16} (hk : (i 1).val = k.val) {u : Vec Ideal S8192x64 .f32} (hu : ∀ d r, u (ix2 d r) = (U d r : EReal))
    {j0 j1 : Fin 8192} (h : Acc U X j0 j1 b k.val s) : Acc U X j0 j1 b (k.val + 1) (stepB i u s) := by
  obtain ⟨hM, hs, hr0, hr1⟩ := h
  have hM' := hM
  obtain ⟨hz, hxs, hzd, hi0, hi1, hl⟩ := hM
  have hrl : ∀ c, rlogit i u s (ix2 b c) = (Chain.logit U (moved X j0 j1 1) (at' k c) : EReal) :=
    pay52_at hk (fun c => (block_at s.xs (off6_inb i) (off6_at hk) b c).trans (hxs _)) ((col0_at _ b).trans hi0) ((col1_at _ b).trans hi1)
      (fun c r => (rows_at u (off7_inb i) (off7_at hk) c r).trans (hu _ r)) (fun r => (congrFun (all64_eq s.zd) _).trans (hzd r))
  refine ⟨hM', ?_, ?_, ?_⟩
  · refine statB_at (w := rlogit i u s) (m := all1 s.mx) (s := all1 s.sm) (n := rmax i u (all1 s.mx) s) hrl ?_ ?_
    · unfold rmax rlogit
      pointwise [k0_pay53]
      rw [Chain.ofBits_bot]
    · rw [all1_eq, all1_eq]; exact hs
  · show cols s.racc (racc0 i u (col0 s.racc) s) _ (ix2 b 0) = _
    rw [cols_at0]
    unfold racc0
    pointwise [k0_pay56]
    have h50 := fun c => pay50_at hk (p := col0 s.bi) ((col0_at _ b).trans hi0) c
    simp only [hrl, h50, col0_at, ← EReal.coe_mul, Chain.coe_sum]
    rw [show col0 s.racc (ix2 b 0) = _ from (col0_at _ b).trans hr0, ← EReal.coe_add, Chain.below_succ]
  · show cols s.racc _ (k0_pay57 (k0_pay51 (k0_pay59 i) (col1 s.bi)) (rlogit i u s) (col1 s.racc)) (ix2 b 1) = _
    rw [cols_at1]
    pointwise [k0_pay57]
    have h51 := fun c => pay51_at hk (p := col1 s.bi) ((col1_at _ b).trans hi1) c
    simp only [hrl, h51, col1_at, ← EReal.coe_mul, Chain.coe_sum]
    rw [show col1 s.racc (ix2 b 0) = _ from (col1_at _ b).trans hr1, ← EReal.coe_add, Chain.below_succ]

theorem acc_end {i : grid0.Coords} {t : Fin 4} (ht : (i 0).val = 2 * t.val + 2) {a : Vec Ideal S1024x4 .f32} {g : Fin 2 → Fin 8192 → ℝ}
    (h : Acc U X (draw U X (g 0)) (draw U X (g 1)) b 16 s) : Start U (step U X g (a (ix2 b t))) b (finB i a s) := by
  obtain ⟨⟨hz, hxs, hzd, hi0, hi1, hl⟩, hs, hr0, hr1⟩ := h
  rw [Chain.below_all, Chain.sum_ind] at hr0 hr1
  have hla : k0_pay42 (all1 s.mx) (all1 s.sm) (col0 s.racc) (col1 s.racc) (all64 s.zd) (all64 s.zd) (all64 s.z) (all64 s.z) (all1 s.lpf) (ix2 b 0)
      = (ratio U X (draw U X (g 0)) (draw U X (g 1)) : EReal) := by
    rw [all1_eq, all1_eq, all1_eq, all64_eq, all64_eq]
    exact pay42_at hs ((col0_at _ b).trans hr0) ((col1_at _ b).trans hr1) hz hzd hl
  have hac : (finB i a s).acc (ix2 b 0) = (taken U X (draw U X (g 0)) (draw U X (g 1)) (a (ix2 b t)) : EReal) := by
    refine (pay44_at ht hla).trans ?_
    rw [all4_eq]; rfl
  refine ⟨fun r => ?_, X, _, _, _, ?_, ?_, hac, fun d _ => ⟨hxs d, rfl⟩, fun d hd => absurd hd (by omega)⟩
  · refine (pay58_at ht hla (fun r => (congrFun (all64_eq s.z) _).trans (hz r)) (fun r => (congrFun (all64_eq s.zd) _).trans (hzd r)) r).trans ?_
    rw [all4_eq]
    exact congrArg _ (Chain.prod_moved U X _ _ (Chain.taken_cases U X _ _ (a (ix2 b t))) r)
  · show k0_pay45 (all2 s.bi) (ix2 b 0) = _
    pointwise [k0_pay45]
    rw [all2_eq]; exact hi0
  · show k0_pay45 (all2 s.bi) (ix2 b 1) = _
    pointwise [k0_pay45]
    rw [all2_eq]; exact hi1

/-! ### Writing -/

theorem out_at {i : grid0.Coords} {k : Fin 16} (hk : (i 1).val = k.val) (h : Pend X b 0 s) (c : Fin 512) : outC i s (ix2 b c) = (X (at' k c) : EReal) := by
  obtain ⟨y, j0, j1, a, h0, h1, ha, hge, -⟩ := h
  rw [← (hge (at' k c) (by omega)).2]
  refine pay13_at hk (x := VecWindow.window s.xs (k0_off8 i) S1024x512.size (off8_inb i)) (fun c => ?_) ((col0_at _ b).trans h0) ((col1_at _ b).trans h1)
    ((congrFun (all1_eq s.acc) _).trans ha) c
  rw [block_at s.xs (off8_inb i) (off8_at hk)]
  exact (hge _ (by omega)).1
end

end Cert.KernelIdeal.Phases

end
-- ==== Proof.KernelIdeal.Trips.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.State

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values the last column blocks load, and the loop -/

theorem pay5_congr {a a' b b' c c' d d' : Vec F S1024x1 .f32} (ha : a = a') (hb : b = b') (hc : c = c') (hd : d = d') :
    k0_pay5 a b c d = k0_pay5 a' b' c' d' := by rw [ha, hb, hc, hd]
theorem pay7_congr {a a' b b' : Vec F S1024x1 .i32} {c c' : Vec F S1024x1 .f32} (ha : a = a') (hb : b = b') (hc : c = c') :
    k0_pay7 a b c = k0_pay7 a' b' c' := by rw [ha, hb, hc]
theorem pay8_congr {a a' b b' : Vec F S1024x1 .i32} {c c' : Vec F S1024x1 .f32} (ha : a = a') (hb : b = b') (hc : c = c') :
    k0_pay8 a b c = k0_pay8 a' b' c' := by rw [ha, hb, hc]
theorem pay42_congr {a a' b b' c c' d d' : Vec F S1024x1 .f32} (ha : a = a') (hb : b = b') (hc : c = c') (hd : d = d')
    (x y z w : Vec F S1024x64 .f32) (l : Vec F S1024x1 .f32) :
    k0_pay42 a b c d x y z w l = k0_pay42 a' b' c' d' x y z w l := by rw [ha, hb, hc, hd]

theorem tripR_eq (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (h3 : k0_cond3 i = 1#1) (h5 : k0_cond5 i = 1#1)
    (v w : FVec F S1024x1 .f32) (X3 : arg3.view.ty.Contents (Elt F)) (X15 : arg15.view.ty.Contents (Elt F)) (k : Fin k0_t1_loop.trips)
    (a : FVec F S1024x64 .f32) :
    tripR_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h3 h5 v w 0#32 1#32 X3 X15 k a
      = k0_pay2 v w 0#32 1#32 k a (col0 (arg15.view.read (Elt F) X15)) (col1 (arg15.view.read (Elt F) X15))
          (VecWindow.window (arg3.view.read (Elt F) X3) (k0_off5 k) S512x64.size (off5_inb k)) := by
  unfold tripR_k0_t1 trip_k0_t1
  rfl

/-- The loop carries what it has added so far. -/
theorem added_eq {c : Dev nD} {i : grid0.Coords} {arg2 : Memref sig .tc .vmem S1024x512 .f32} {harg2 : arg2.IsWhole} {arg3 : Memref sig .tc .vmem S8192x64 .f32} {harg3 : arg3.IsWhole} {arg4 : Memref sig .tc .vmem S1x2x1024x512 .f32} {harg4 : arg4.IsWhole} {arg5 : Memref sig .tc .vmem S1024x4 .f32} {harg5 : arg5.IsWhole} {arg6 : Memref sig .tc .vmem S1024x512 .f32} {harg6 : arg6.IsWhole} {arg7 : Memref sig .tc .vmem S1024x8192 .f32} {harg7 : arg7.IsWhole} {arg8 : Memref sig .tc .vmem S1024x64 .f32} {harg8 : arg8.IsWhole} {arg9 : Memref sig .tc .vmem S1024x64 .f32} {harg9 : arg9.IsWhole} {arg10 : Memref sig .tc .vmem S1024x1 .f32} {harg10 : arg10.IsWhole} {arg11 : Memref sig .tc .vmem S1024x1 .f32} {harg11 : arg11.IsWhole} {arg12 : Memref sig .tc .vmem S1024x2 .f32} {harg12 : arg12.IsWhole} {arg13 : Memref sig .tc .vmem S1024x2 .f32} {harg13 : arg13.IsWhole} {arg14 : Memref sig .tc .vmem S1024x2 .f32} {harg14 : arg14.IsWhole} {arg15 : Memref sig .tc .vmem S1024x2 .i32} {harg15 : arg15.IsWhole} {arg16 : Memref sig .tc .vmem S1024x2 .i32} {harg16 : arg16.IsWhole} {arg17 : Memref sig .tc .vmem S1024x1 .f32} {harg17 : arg17.IsWhole} {arg18 : Memref sig .tc .vmem S1024x2 .f32} {harg18 : arg18.IsWhole} {arg19 : Memref sig .tc .vmem S1024x1 .f32} {harg19 : arg19.IsWhole} {h3 : k0_cond3 i = 1#1} {h5 : k0_cond5 i = 1#1}
    {v w : FVec F S1024x1 .f32} {X3 : arg3.view.ty.Contents (Elt F)} {X15 : arg15.view.ty.Contents (Elt F)}
    {u : Vec F S8192x64 .f32} {i0 i1 : Vec F S1024x1 .i32} {x0 x1 : Vec F S1024x1 .f32}
    (e1 : v = k0_pay7 i0 i1 x0) (e2 : w = k0_pay8 i0 i1 x1) (e3 : arg3.view.read (Elt F) X3 = u)
    (e4 : col0 (arg15.view.read (Elt F) X15) = i0) (e5 : col1 (arg15.view.read (Elt F) X15) = i1) :
    ∀ k : ℕ, k ≤ k0_t1_loop.trips →
      st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h3 h5 v w 0#32 1#32 X3 X15 k0_pay9 k = added u i0 i1 x0 x1 k
  | 0, _ => rfl
  | k + 1, hk => by
    have hk' : k < k0_t1_loop.trips := hk
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h3 h5 v w 0#32 1#32 X3 X15 k0_pay9 ⟨k, hk'⟩, tripR_eq,
      added_eq e1 e2 e3 e4 e5 k hk'.le, e3, e4, e5, added, dif_pos hk', trip, ← e1, ← e2]

end Cert.KernelIdeal.Body

end
-- ==== Proof.KernelIdeal.LoadFirst.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first column block of the loading phase. -/
theorem loadFirst (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : k0_cond1 i = 1#1) (h3 : ¬ k0_cond3 i = 1#1) (h6 : ¬ k0_cond6 i = 1#1) (h9 : ¬ k0_cond9 i = 1#1) (hf : first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (stepL i x2 x3 (initL s))) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf)
  sl_step
  iapply Hk
  have hE : stepLw i (arg2.view.read (Elt F) f2) (arg3.view.read (Elt F) f3) (arg8.view.readCov [⟨r64, (k0_pay60 : FVec F S1024x64 .f32)⟩] r64.toLoadRect) (initL (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)) = stepL i (arg2.view.read (Elt F) f2) (arg3.view.read (Elt F) f3) (initL (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)) := congrArg (fun m => stepLw i (arg2.view.read (Elt F) f2) (arg3.view.read (Elt F) f3) m (initL (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))) (cov64 _ _ _)
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact (read_put arg7.view _ _ _ _).trans rfl
  isplitl [H8]
  · iexists _; isplitr; swap; · iexact H8
    ipureintro
    exact (read_full64 arg8.view _ _ _).trans ((rfl : _ = (stepLw i (arg2.view.read (Elt F) f2) (arg3.view.read (Elt F) f3) (arg8.view.readCov [⟨r64, (k0_pay60 : FVec F S1024x64 .f32)⟩] r64.toLoadRect) (initL (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).z).trans (congrArg St.z hE))
  isplitl [H9]
  · iexists _; isplitr; swap; · iexact H9
    ipureintro
    exact rfl
  isplitl [H10]
  · iexists _; isplitr; swap; · iexact H10
    ipureintro
    exact rfl
  isplitl [H11]
  · iexists _; isplitr; swap; · iexact H11
    ipureintro
    exact rfl
  isplitl [H12]
  · iexists _; isplitr; swap; · iexact H12
    ipureintro
    exact rfl
  isplitl [H13]
  · iexists _; isplitr; swap; · iexact H13
    ipureintro
    exact rfl
  isplitl [H14]
  · iexists _; isplitr; swap; · iexact H14
    ipureintro
    exact rfl
  isplitl [H15]
  · iexists _; isplitr; swap; · iexact H15
    ipureintro
    exact rfl
  isplitl [H16]
  · iexists _; isplitr; swap; · iexact H16
    ipureintro
    exact (read_full2 arg16.view _ _ _).trans rfl
  isplitl [H17]
  · iexists _; isplitr; swap; · iexact H17
    ipureintro
    exact rfl
  isplitl [H18]
  · iexists _; isplitr; swap; · iexact H18
    ipureintro
    exact rfl
  · iexists _; isplitr; swap; · iexact H19
    ipureintro
    exact (read_full1 arg19.view _ _ _).trans rfl

end Cert.KernelIdeal.Body

end
-- ==== Proof.KernelIdeal.Load.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a later column block of the loading phase. -/
theorem load (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : k0_cond1 i = 1#1) (h3 : ¬ k0_cond3 i = 1#1) (h6 : ¬ k0_cond6 i = 1#1) (h9 : ¬ k0_cond9 i = 1#1) (hf : ¬ first i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (stepL i x2 x3 s)) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf)
  sl_step
  iapply Hk
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact (read_put arg7.view _ _ _ _).trans rfl
  isplitl [H8]
  · iexists _; isplitr; swap; · iexact H8
    ipureintro
    exact (read_full64 arg8.view _ _ _).trans rfl
  isplitl [H9]
  · iexists _; isplitr; swap; · iexact H9
    ipureintro
    exact rfl
  isplitl [H10]
  · iexists _; isplitr; swap; · iexact H10
    ipureintro
    exact rfl
  isplitl [H11]
  · iexists _; isplitr; swap; · iexact H11
    ipureintro
    exact rfl
  isplitl [H12]
  · iexists _; isplitr; swap; · iexact H12
    ipureintro
    exact rfl
  isplitl [H13]
  · iexists _; isplitr; swap; · iexact H13
    ipureintro
    exact rfl
  isplitl [H14]
  · iexists _; isplitr; swap; · iexact H14
    ipureintro
    exact rfl
  isplitl [H15]
  · iexists _; isplitr; swap; · iexact H15
    ipureintro
    exact rfl
  isplitl [H16]
  · iexists _; isplitr; swap; · iexact H16
    ipureintro
    exact rfl
  isplitl [H17]
  · iexists _; isplitr; swap; · iexact H17
    ipureintro
    exact rfl
  isplitl [H18]
  · iexists _; isplitr; swap; · iexact H18
    ipureintro
    exact rfl
  · iexists _; isplitr; swap; · iexact H19
    ipureintro
    exact rfl

end Cert.KernelIdeal.Body

end
-- ==== Proof.KernelIdeal.ProposeFirst.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first column block of a proposing phase. -/
theorem proposeFirst (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : k0_cond3 i = 1#1) (h6 : ¬ k0_cond6 i = 1#1) (h9 : ¬ k0_cond9 i = 1#1) (hf : first i) (h5 : ¬ k0_cond5 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (stepA i x3 x4 (initA s))) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf | sl_exact h5)
  sl_step
  iapply Hk
  have hE : stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)) = stepA i (arg3.view.read (Elt F) f3) (arg4.view.read (Elt F) f4) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)) := by
    rw [cov1, cov1, cov_first1, cov_first0]; rfl
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact (read_put arg7.view _ _ _ _).trans rfl
  isplitl [H8]
  · iexists _; isplitr; swap; · iexact H8
    ipureintro
    exact rfl
  isplitl [H9]
  · iexists _; isplitr; swap; · iexact H9
    ipureintro
    exact rfl
  isplitl [H10]
  · iexists _; isplitr; swap; · iexact H10
    ipureintro
    exact (read_full1 arg10.view _ _ _).trans ((rfl : _ = (stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).mx).trans (congrArg St.mx hE))
  isplitl [H11]
  · iexists _; isplitr; swap; · iexact H11
    ipureintro
    exact (read_full1 arg11.view _ _ _).trans ((rfl : _ = (stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).sm).trans (congrArg St.sm hE))
  isplitl [H12]
  · iexists _; isplitr; swap; · iexact H12
    ipureintro
    exact (read_cols_over arg12.view _ _ _ _).trans ((rfl : _ = (stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).bv).trans (congrArg St.bv hE))
  isplitl [H13]
  · iexists _; isplitr; swap; · iexact H13
    ipureintro
    exact (read_cols arg13.view _ _ _ _).trans ((rfl : _ = (stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).bw).trans (congrArg St.bw hE))
  isplitl [H14]
  · iexists _; isplitr; swap; · iexact H14
    ipureintro
    exact (read_cols arg14.view _ _ _ _).trans ((rfl : _ = (stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).bx).trans (congrArg St.bx hE))
  isplitl [H15]
  · iexists _; isplitr; swap; · iexact H15
    ipureintro
    exact (read_cols arg15.view _ _ _ _).trans ((rfl : _ = (stepAw i (arg3.view.read (Elt F) f3) (arg4.view.read (Elt F) f4) (arg10.view.readCov [⟨r1, (k0_pay10 : FVec F S1024x1 .f32)⟩] r1.toLoadRect) (arg11.view.readCov [⟨r1, (k0_pay11 : FVec F S1024x1 .f32)⟩] r1.toLoadRect) (arg12.view.readCov [⟨r2, (k0_pay12 : FVec F S1024x2 .f32)⟩] rc0.toLoadRect) (arg12.view.readCov [⟨rc0, best0 i (arg3.view.read (Elt F) f3) (arg4.view.read (Elt F) f4) (arg12.view.readCov [⟨r2, (k0_pay12 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay12 : FVec F S1024x2 .f32)⟩] rc1.toLoadRect) (initA (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).bi).trans (congrArg St.bi hE))
  isplitl [H16]
  · iexists _; isplitr; swap; · iexact H16
    ipureintro
    exact rfl
  isplitl [H17]
  · iexists _; isplitr; swap; · iexact H17
    ipureintro
    exact rfl
  isplitl [H18]
  · iexists _; isplitr; swap; · iexact H18
    ipureintro
    exact rfl
  · iexists _; isplitr; swap; · iexact H19
    ipureintro
    exact rfl

end Cert.KernelIdeal.Body

end
-- ==== Proof.KernelIdeal.Propose.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a middle column block of a proposing phase. -/
theorem propose (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : k0_cond3 i = 1#1) (h6 : ¬ k0_cond6 i = 1#1) (h9 : ¬ k0_cond9 i = 1#1) (hf : ¬ first i) (h5 : ¬ k0_cond5 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (stepA i x3 x4 s)) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf | sl_exact h5)
  sl_step
  iapply Hk
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact (read_put arg7.view _ _ _ _).trans rfl
  isplitl [H8]
  · iexists _; isplitr; swap; · iexact H8
    ipureintro
    exact rfl
  isplitl [H9]
  · iexists _; isplitr; swap; · iexact H9
    ipureintro
    exact rfl
  isplitl [H10]
  · iexists _; isplitr; swap; · iexact H10
    ipureintro
    exact (read_full1 arg10.view _ _ _).trans rfl
  isplitl [H11]
  · iexists _; isplitr; swap; · iexact H11
    ipureintro
    exact (read_full1 arg11.view _ _ _).trans rfl
  isplitl [H12]
  · iexists _; isplitr; swap; · iexact H12
    ipureintro
    exact (read_cols arg12.view _ _ _ _).trans rfl
  isplitl [H13]
  · iexists _; isplitr; swap; · iexact H13
    ipureintro
    exact (read_cols arg13.view _ _ _ _).trans rfl
  isplitl [H14]
  · iexists _; isplitr; swap; · iexact H14
    ipureintro
    exact (read_cols arg14.view _ _ _ _).trans rfl
  isplitl [H15]
  · iexists _; isplitr; swap; · iexact H15
    ipureintro
    exact (read_cols arg15.view _ _ _ _).trans rfl
  isplitl [H16]
  · iexists _; isplitr; swap; · iexact H16
    ipureintro
    exact rfl
  isplitl [H17]
  · iexists _; isplitr; swap; · iexact H17
    ipureintro
    exact rfl
  isplitl [H18]
  · iexists _; isplitr; swap; · iexact H18
    ipureintro
    exact rfl
  · iexists _; isplitr; swap; · iexact H19
    ipureintro
    exact rfl

end Cert.KernelIdeal.Body

end
-- ==== Proof.KernelIdeal.ProposeLast.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips
public import proofs.«01_k».proof.Proof.KernelIdeal.Columns

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last column block of a proposing phase. -/
theorem proposeLast (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : k0_cond3 i = 1#1) (h6 : ¬ k0_cond6 i = 1#1) (h9 : ¬ k0_cond9 i = 1#1) (hf : ¬ first i) (h5 : k0_cond5 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (finA x3 (stepA i x3 x4 s))) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf | sl_exact h5)
  sl_step
  iapply Hk
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact (read_put arg7.view _ _ _ _).trans rfl
  isplitl [H8]
  · iexists _; isplitr; swap; · iexact H8
    ipureintro
    exact rfl
  isplitl [H9]
  · iexists _; isplitr; swap; · iexact H9
    ipureintro
    exact (read_full64 arg9.view _ _ _).trans (congrArg (fun a => k0_pay3 a (all64 (arg8.view.read (Elt F) f8))) (added_eq (u := (arg3.view.read (Elt F) f3)) (i0 := col0 (stepA i (arg3.view.read (Elt F) f3) (arg4.view.read (Elt F) f4) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)).bi) (i1 := col1 (stepA i (arg3.view.read (Elt F) f3) (arg4.view.read (Elt F) f4) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)).bi) (x0 := col0 (stepA i (arg3.view.read (Elt F) f3) (arg4.view.read (Elt F) f4) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)).bx) (x1 := col1 (stepA i (arg3.view.read (Elt F) f3) (arg4.view.read (Elt F) f4) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)).bx)
      (pay7_congr (cov_cols0 arg15.view (arg15.view.read (Elt F) f15) _ _ _) (cov_cols1 arg15.view (arg15.view.read (Elt F) f15) _ _ _) (cov_cols0 arg14.view (arg14.view.read (Elt F) f14) _ _ _))
      (pay8_congr (cov_cols0 arg15.view (arg15.view.read (Elt F) f15) _ _ _) (cov_cols1 arg15.view (arg15.view.read (Elt F) f15) _ _ _) (cov_cols1 arg14.view (arg14.view.read (Elt F) f14) _ _ _))
      rfl (congrArg col0 ((read_cols arg15.view _ _ _ _).trans (cols_any _ (arg15.view.read (Elt F) f15) _ _))) (congrArg col1 ((read_cols arg15.view _ _ _ _).trans (cols_any _ (arg15.view.read (Elt F) f15) _ _))) _ le_rfl))
  isplitl [H10]
  · iexists _; isplitr; swap; · iexact H10
    ipureintro
    exact (read_full1 arg10.view _ _ _).trans rfl
  isplitl [H11]
  · iexists _; isplitr; swap; · iexact H11
    ipureintro
    exact (read_full1 arg11.view _ _ _).trans rfl
  isplitl [H12]
  · iexists _; isplitr; swap; · iexact H12
    ipureintro
    exact (read_cols arg12.view _ _ _ _).trans ((cols_any _ (arg12.view.read (Elt F) f12) _ _).trans rfl)
  isplitl [H13]
  · iexists _; isplitr; swap; · iexact H13
    ipureintro
    exact (read_cols arg13.view _ _ _ _).trans ((cols_any _ (arg13.view.read (Elt F) f13) _ _).trans rfl)
  isplitl [H14]
  · iexists _; isplitr; swap; · iexact H14
    ipureintro
    exact (read_cols arg14.view _ _ _ _).trans ((cols_any _ (arg14.view.read (Elt F) f14) _ _).trans rfl)
  isplitl [H15]
  · iexists _; isplitr; swap; · iexact H15
    ipureintro
    exact (read_cols arg15.view _ _ _ _).trans ((cols_any _ (arg15.view.read (Elt F) f15) _ _).trans rfl)
  isplitl [H16]
  · iexists _; isplitr; swap; · iexact H16
    ipureintro
    exact rfl
  isplitl [H17]
  · iexists _; isplitr; swap; · iexact H17
    ipureintro
    exact (read_full1 arg17.view _ _ _).trans (pay5_congr (cov1 arg10.view _ _) (cov1 arg11.view _ _) (cov_cols0 arg13.view (arg13.view.read (Elt F) f13) _ _ _) (cov_cols1 arg13.view (arg13.view.read (Elt F) f13) _ _ _))
  isplitl [H18]
  · iexists _; isplitr; swap; · iexact H18
    ipureintro
    exact rfl
  · iexists _; isplitr; swap; · iexact H19
    ipureintro
    exact rfl

end Cert.KernelIdeal.Body

end
-- ==== Proof.KernelIdeal.AcceptFirst.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first column block of an accepting phase. -/
theorem acceptFirst (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : ¬ k0_cond3 i = 1#1) (h6 : k0_cond6 i = 1#1) (h9 : ¬ k0_cond9 i = 1#1) (hf : first i) (hl : ¬ last i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (stepB i x3 (initB s))) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf | sl_exact hl)
  sl_step
  iapply Hk
  have hE : stepBw i (arg3.view.read (Elt F) f3) (arg10.view.readCov [⟨r1, (k0_pay47 : FVec F S1024x1 .f32)⟩] r1.toLoadRect) (arg11.view.readCov [⟨r1, (k0_pay48 : FVec F S1024x1 .f32)⟩] r1.toLoadRect) (arg18.view.readCov [⟨r2, (k0_pay49 : FVec F S1024x2 .f32)⟩] rc0.toLoadRect) (arg18.view.readCov [⟨rc0, racc0 i (arg3.view.read (Elt F) f3) (arg18.view.readCov [⟨r2, (k0_pay49 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay49 : FVec F S1024x2 .f32)⟩] rc1.toLoadRect) (initB (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)) = stepB i (arg3.view.read (Elt F) f3) (initB (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)) := by
    rw [cov1, cov1, cov_first1, cov_first0]; rfl
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact rfl
  isplitl [H8]
  · iexists _; isplitr; swap; · iexact H8
    ipureintro
    exact rfl
  isplitl [H9]
  · iexists _; isplitr; swap; · iexact H9
    ipureintro
    exact rfl
  isplitl [H10]
  · iexists _; isplitr; swap; · iexact H10
    ipureintro
    exact (read_full1 arg10.view _ _ _).trans ((rfl : _ = (stepBw i (arg3.view.read (Elt F) f3) (arg10.view.readCov [⟨r1, (k0_pay47 : FVec F S1024x1 .f32)⟩] r1.toLoadRect) (arg11.view.readCov [⟨r1, (k0_pay48 : FVec F S1024x1 .f32)⟩] r1.toLoadRect) (arg18.view.readCov [⟨r2, (k0_pay49 : FVec F S1024x2 .f32)⟩] rc0.toLoadRect) (arg18.view.readCov [⟨rc0, racc0 i (arg3.view.read (Elt F) f3) (arg18.view.readCov [⟨r2, (k0_pay49 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay49 : FVec F S1024x2 .f32)⟩] rc1.toLoadRect) (initB (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).mx).trans (congrArg St.mx hE))
  isplitl [H11]
  · iexists _; isplitr; swap; · iexact H11
    ipureintro
    exact (read_full1 arg11.view _ _ _).trans ((rfl : _ = (stepBw i (arg3.view.read (Elt F) f3) (arg10.view.readCov [⟨r1, (k0_pay47 : FVec F S1024x1 .f32)⟩] r1.toLoadRect) (arg11.view.readCov [⟨r1, (k0_pay48 : FVec F S1024x1 .f32)⟩] r1.toLoadRect) (arg18.view.readCov [⟨r2, (k0_pay49 : FVec F S1024x2 .f32)⟩] rc0.toLoadRect) (arg18.view.readCov [⟨rc0, racc0 i (arg3.view.read (Elt F) f3) (arg18.view.readCov [⟨r2, (k0_pay49 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay49 : FVec F S1024x2 .f32)⟩] rc1.toLoadRect) (initB (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).sm).trans (congrArg St.sm hE))
  isplitl [H12]
  · iexists _; isplitr; swap; · iexact H12
    ipureintro
    exact rfl
  isplitl [H13]
  · iexists _; isplitr; swap; · iexact H13
    ipureintro
    exact rfl
  isplitl [H14]
  · iexists _; isplitr; swap; · iexact H14
    ipureintro
    exact rfl
  isplitl [H15]
  · iexists _; isplitr; swap; · iexact H15
    ipureintro
    exact rfl
  isplitl [H16]
  · iexists _; isplitr; swap; · iexact H16
    ipureintro
    exact rfl
  isplitl [H17]
  · iexists _; isplitr; swap; · iexact H17
    ipureintro
    exact rfl
  isplitl [H18]
  · iexists _; isplitr; swap; · iexact H18
    ipureintro
    exact (read_cols_over arg18.view _ _ _ _).trans ((rfl : _ = (stepBw i (arg3.view.read (Elt F) f3) (arg10.view.readCov [⟨r1, (k0_pay47 : FVec F S1024x1 .f32)⟩] r1.toLoadRect) (arg11.view.readCov [⟨r1, (k0_pay48 : FVec F S1024x1 .f32)⟩] r1.toLoadRect) (arg18.view.readCov [⟨r2, (k0_pay49 : FVec F S1024x2 .f32)⟩] rc0.toLoadRect) (arg18.view.readCov [⟨rc0, racc0 i (arg3.view.read (Elt F) f3) (arg18.view.readCov [⟨r2, (k0_pay49 : FVec F S1024x2 .f32)⟩] rc0.toLoadRect) (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F)⟩, ⟨r2, (k0_pay49 : FVec F S1024x2 .f32)⟩] rc1.toLoadRect) (initB (⟨(arg7.view.read (Elt F) f7), (arg8.view.read (Elt F) f8), (arg9.view.read (Elt F) f9), (arg10.view.read (Elt F) f10), (arg11.view.read (Elt F) f11), (arg12.view.read (Elt F) f12), (arg13.view.read (Elt F) f13), (arg14.view.read (Elt F) f14), (arg15.view.read (Elt F) f15), (arg16.view.read (Elt F) f16), (arg17.view.read (Elt F) f17), (arg18.view.read (Elt F) f18), (arg19.view.read (Elt F) f19)⟩ : St F))).racc).trans (congrArg St.racc hE))
  · iexists _; isplitr; swap; · iexact H19
    ipureintro
    exact rfl

end Cert.KernelIdeal.Body

end
-- ==== Proof.KernelIdeal.Accept.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a middle column block of an accepting phase. -/
theorem accept (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : ¬ k0_cond3 i = 1#1) (h6 : k0_cond6 i = 1#1) (h9 : ¬ k0_cond9 i = 1#1) (hf : ¬ first i) (hl : ¬ last i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (stepB i x3 s)) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf | sl_exact hl)
  sl_step
  iapply Hk
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact rfl
  isplitl [H8]
  · iexists _; isplitr; swap; · iexact H8
    ipureintro
    exact rfl
  isplitl [H9]
  · iexists _; isplitr; swap; · iexact H9
    ipureintro
    exact rfl
  isplitl [H10]
  · iexists _; isplitr; swap; · iexact H10
    ipureintro
    exact (read_full1 arg10.view _ _ _).trans rfl
  isplitl [H11]
  · iexists _; isplitr; swap; · iexact H11
    ipureintro
    exact (read_full1 arg11.view _ _ _).trans rfl
  isplitl [H12]
  · iexists _; isplitr; swap; · iexact H12
    ipureintro
    exact rfl
  isplitl [H13]
  · iexists _; isplitr; swap; · iexact H13
    ipureintro
    exact rfl
  isplitl [H14]
  · iexists _; isplitr; swap; · iexact H14
    ipureintro
    exact rfl
  isplitl [H15]
  · iexists _; isplitr; swap; · iexact H15
    ipureintro
    exact rfl
  isplitl [H16]
  · iexists _; isplitr; swap; · iexact H16
    ipureintro
    exact rfl
  isplitl [H17]
  · iexists _; isplitr; swap; · iexact H17
    ipureintro
    exact rfl
  isplitl [H18]
  · iexists _; isplitr; swap; · iexact H18
    ipureintro
    exact (read_cols arg18.view _ _ _ _).trans rfl
  · iexists _; isplitr; swap; · iexact H19
    ipureintro
    exact rfl

end Cert.KernelIdeal.Body

end
-- ==== Proof.KernelIdeal.AcceptLast.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last column block of an accepting phase. -/
theorem acceptLast (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : ¬ k0_cond3 i = 1#1) (h6 : k0_cond6 i = 1#1) (h9 : ¬ k0_cond9 i = 1#1) (hf : ¬ first i) (hl : last i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (x6) ∗ held c arg7 arg8 arg9 arg10 arg11 arg12 arg13 arg14 arg15 arg16 arg17 arg18 arg19 (finB i x5 (stepB i x3 s))) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9 | sl_exact hf | sl_exact hl)
  sl_step
  iapply Hk
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact rfl
  isplitl [H7]
  · iexists _; isplitr; swap; · iexact H7
    ipureintro
    exact rfl
  isplitl [H8]
  · iexists _; isplitr; swap; · iexact H8
    ipureintro
    exact (read_full64 arg8.view _ _ _).trans (congrArg (fun r => k0_pay58 (k0_pay46 r (phase i) 2#32 (Scalar.divsi (phase i) 2#32) (phaseSign i) (Scalar.extui (Scalar.cmpi .sgt 2#32 0#32)) 0#32 (all4 (arg5.view.read (Elt F) f5)) (all64 (arg8.view.read (Elt F) f8)) (all64 (arg9.view.read (Elt F) f9)))) (pay42_congr (cov1 arg10.view _ _) (cov1 arg11.view _ _) (cov_cols0 arg18.view (arg18.view.read (Elt F) f18) _ _ _) (cov_cols1 arg18.view (arg18.view.read (Elt F) f18) _ _ _) (all64 (arg9.view.read (Elt F) f9)) (all64 (arg9.view.read (Elt F) f9)) (all64 (arg8.view.read (Elt F) f8)) (all64 (arg8.view.read (Elt F) f8)) (all1 (arg17.view.read (Elt F) f17))))
  isplitl [H9]
  · iexists _; isplitr; swap; · iexact H9
    ipureintro
    exact rfl
  isplitl [H10]
  · iexists _; isplitr; swap; · iexact H10
    ipureintro
    exact (read_full1 arg10.view _ _ _).trans rfl
  isplitl [H11]
  · iexists _; isplitr; swap; · iexact H11
    ipureintro
    exact (read_full1 arg11.view _ _ _).trans rfl
  isplitl [H12]
  · iexists _; isplitr; swap; · iexact H12
    ipureintro
    exact rfl
  isplitl [H13]
  · iexists _; isplitr; swap; · iexact H13
    ipureintro
    exact rfl
  isplitl [H14]
  · iexists _; isplitr; swap; · iexact H14
    ipureintro
    exact rfl
  isplitl [H15]
  · iexists _; isplitr; swap; · iexact H15
    ipureintro
    exact rfl
  isplitl [H16]
  · iexists _; isplitr; swap; · iexact H16
    ipureintro
    exact (read_full2 arg16.view _ _ _).trans rfl
  isplitl [H17]
  · iexists _; isplitr; swap; · iexact H17
    ipureintro
    exact rfl
  isplitl [H18]
  · iexists _; isplitr; swap; · iexact H18
    ipureintro
    exact (read_cols arg18.view _ _ _ _).trans rfl
  · iexists _; isplitr; swap; · iexact H19
    ipureintro
    exact (read_full1 arg19.view _ _ _).trans (congrArg (fun r => k0_pay44 r (phase i) 2#32 (Scalar.divsi (phase i) 2#32) (phaseSign i) (Scalar.extui (Scalar.cmpi .sgt 2#32 0#32)) 0#32 (all4 (arg5.view.read (Elt F) f5))) (pay42_congr (cov1 arg10.view _ _) (cov1 arg11.view _ _) (cov_cols0 arg18.view (arg18.view.read (Elt F) f18) _ _ _) (cov_cols1 arg18.view (arg18.view.read (Elt F) f18) _ _ _) (all64 (arg9.view.read (Elt F) f9)) (all64 (arg9.view.read (Elt F) f9)) (all64 (arg8.view.read (Elt F) f8)) (all64 (arg8.view.read (Elt F) f8)) (all1 (arg17.view.read (Elt F) f17))))

end Cert.KernelIdeal.Body

end
-- ==== Proof.KernelIdeal.Write.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Trips

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a column block of the writing phase. -/
theorem write (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F)
    (h1 : ¬ k0_cond1 i = 1#1) (h3 : ¬ k0_cond3 i = 1#1) (h6 : ¬ k0_cond6 i = 1#1) (h9 : k0_cond9 i = 1#1) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outC i s) ∗ held c arg7 arg8 arg9 arg10 arg11 arg12 arg13 arg14 arg15 arg16 arg17 arg18 arg19 (s)) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨x7, x8, x9, x10, x11, x12, x13, x14, x15, x16, x17, x18, x19⟩ := s
  simp only [cc0__mcmc_body_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold cc0__mcmc_body_skel held owns
  iintro ⟨⟨%f2, %hf2, H2⟩, ⟨%f3, %hf3, H3⟩, ⟨%f4, %hf4, H4⟩, ⟨%f5, %hf5, H5⟩, ⟨%f6, %hf6, H6⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, Hk⟩
  have g2 : arg2.view.read (Elt F) f2 = x2 := hf2
  have g3 : arg3.view.read (Elt F) f3 = x3 := hf3
  have g4 : arg4.view.read (Elt F) f4 = x4 := hf4
  have g5 : arg5.view.read (Elt F) f5 = x5 := hf5
  have g6 : arg6.view.read (Elt F) f6 = x6 := hf6
  have g7 : arg7.view.read (Elt F) f7 = x7 := hf7
  have g8 : arg8.view.read (Elt F) f8 = x8 := hf8
  have g9 : arg9.view.read (Elt F) f9 = x9 := hf9
  have g10 : arg10.view.read (Elt F) f10 = x10 := hf10
  have g11 : arg11.view.read (Elt F) f11 = x11 := hf11
  have g12 : arg12.view.read (Elt F) f12 = x12 := hf12
  have g13 : arg13.view.read (Elt F) f13 = x13 := hf13
  have g14 : arg14.view.read (Elt F) f14 = x14 := hf14
  have g15 : arg15.view.read (Elt F) f15 = x15 := hf15
  have g16 : arg16.view.read (Elt F) f16 = x16 := hf16
  have g17 : arg17.view.read (Elt F) f17 = x17 := hf17
  have g18 : arg18.view.read (Elt F) f18 = x18 := hf18
  have g19 : arg19.view.read (Elt F) f19 = x19 := hf19
  clear hf2 hf3 hf4 hf5 hf6 hf7 hf8 hf9 hf10 hf11 hf12 hf13 hf14 hf15 hf16 hf17 hf18 hf19
  subst g2; subst g3; subst g4; subst g5; subst g6; subst g7; subst g8; subst g9; subst g10; subst g11; subst g12; subst g13; subst g14; subst g15; subst g16; subst g17; subst g18; subst g19
  sl_exec (disch := first | sl_exact h1 | sl_exact h3 | sl_exact h6 | sl_exact h9)
  sl_step
  iapply Hk
  isplitl [H2]
  · iexists _; isplitr; swap; · iexact H2
    ipureintro
    exact rfl
  isplitl [H3]
  · iexists _; isplitr; swap; · iexact H3
    ipureintro
    exact rfl
  isplitl [H4]
  · iexists _; isplitr; swap; · iexact H4
    ipureintro
    exact rfl
  isplitl [H5]
  · iexists _; isplitr; swap; · iexact H5
    ipureintro
    exact rfl
  isplitl [H6]
  · iexists _; isplitr; swap; · iexact H6
    ipureintro
    exact (read_full512 arg6.view _ _ _).trans rfl
  isplitl [H7]
  · iexists _; isplitr; swap; · iexact H7
    ipureintro
    exact rfl
  isplitl [H8]
  · iexists _; isplitr; swap; · iexact H8
    ipureintro
    exact rfl
  isplitl [H9]
  · iexists _; isplitr; swap; · iexact H9
    ipureintro
    exact rfl
  isplitl [H10]
  · iexists _; isplitr; swap; · iexact H10
    ipureintro
    exact rfl
  isplitl [H11]
  · iexists _; isplitr; swap; · iexact H11
    ipureintro
    exact rfl
  isplitl [H12]
  · iexists _; isplitr; swap; · iexact H12
    ipureintro
    exact rfl
  isplitl [H13]
  · iexists _; isplitr; swap; · iexact H13
    ipureintro
    exact rfl
  isplitl [H14]
  · iexists _; isplitr; swap; · iexact H14
    ipureintro
    exact rfl
  isplitl [H15]
  · iexists _; isplitr; swap; · iexact H15
    ipureintro
    exact rfl
  isplitl [H16]
  · iexists _; isplitr; swap; · iexact H16
    ipureintro
    exact rfl
  isplitl [H17]
  · iexists _; isplitr; swap; · iexact H17
    ipureintro
    exact rfl
  isplitl [H18]
  · iexists _; isplitr; swap; · iexact H18
    ipureintro
    exact rfl
  · iexists _; isplitr; swap; · iexact H19
    ipureintro
    exact rfl

end Cert.KernelIdeal.Body

end
-- ==== Proof.KernelIdeal.Step.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.LoadFirst
public import proofs.«01_k».proof.Proof.KernelIdeal.Load
public import proofs.«01_k».proof.Proof.KernelIdeal.ProposeFirst
public import proofs.«01_k».proof.Proof.KernelIdeal.Propose
public import proofs.«01_k».proof.Proof.KernelIdeal.ProposeLast
public import proofs.«01_k».proof.Proof.KernelIdeal.AcceptFirst
public import proofs.«01_k».proof.Proof.KernelIdeal.Accept
public import proofs.«01_k».proof.Proof.KernelIdeal.AcceptLast
public import proofs.«01_k».proof.Proof.KernelIdeal.Write

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body at any grid point -/

/-- Which conditions hold at a grid point: one phase, and the end of a proposing phase at its last column block. -/
theorem conds : ∀ i : grid0.Coords,
    ((k0_cond1 i = 1#1 ∧ ¬ k0_cond3 i = 1#1 ∧ ¬ k0_cond6 i = 1#1 ∧ ¬ k0_cond9 i = 1#1)
      ∨ (¬ k0_cond1 i = 1#1 ∧ k0_cond3 i = 1#1 ∧ ¬ k0_cond6 i = 1#1 ∧ ¬ k0_cond9 i = 1#1)
      ∨ (¬ k0_cond1 i = 1#1 ∧ ¬ k0_cond3 i = 1#1 ∧ k0_cond6 i = 1#1 ∧ ¬ k0_cond9 i = 1#1)
      ∨ (¬ k0_cond1 i = 1#1 ∧ ¬ k0_cond3 i = 1#1 ∧ ¬ k0_cond6 i = 1#1 ∧ k0_cond9 i = 1#1))
    ∧ (k0_cond3 i = 1#1 → (k0_cond5 i = 1#1 ↔ last i)) ∧ ¬ (first i ∧ last i) := by decide +kernel

/-- What the scratch buffers hold after the body at grid point `i`. -/
def next (i : grid0.Coords) (x2 : Vec F S1024x512 .f32) (x3 : Vec F S8192x64 .f32) (x4 : Vec F S1x2x1024x512 .f32)
    (x5 : Vec F S1024x4 .f32) (s : St F) : St F :=
  if k0_cond1 i = 1#1 then (if first i then stepL i x2 x3 (initL s) else stepL i x2 x3 s)
  else if k0_cond3 i = 1#1 then
    (if first i then stepA i x3 x4 (initA s) else if last i then finA x3 (stepA i x3 x4 s) else stepA i x3 x4 s)
  else if k0_cond6 i = 1#1 then
    (if first i then stepB i x3 (initB s) else if last i then finB i x5 (stepB i x3 s) else stepB i x3 s)
  else s

/-- What the output's staging buffer holds after the body at grid point `i`. -/
def nextOut (i : grid0.Coords) (s : St F) (x6 : Vec F S1024x512 .f32) : Vec F S1024x512 .f32 :=
  if k0_cond9 i = 1#1 then outC i s else x6

/-- The body at any grid point. -/
theorem body (c : Dev nD) (i : grid0.Coords) (arg2 : Memref sig .tc .vmem S1024x512 .f32) (harg2 : arg2.IsWhole) (arg3 : Memref sig .tc .vmem S8192x64 .f32) (harg3 : arg3.IsWhole) (arg4 : Memref sig .tc .vmem S1x2x1024x512 .f32) (harg4 : arg4.IsWhole) (arg5 : Memref sig .tc .vmem S1024x4 .f32) (harg5 : arg5.IsWhole) (arg6 : Memref sig .tc .vmem S1024x512 .f32) (harg6 : arg6.IsWhole) (arg7 : Memref sig .tc .vmem S1024x8192 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x2 .f32) (harg12 : arg12.IsWhole) (arg13 : Memref sig .tc .vmem S1024x2 .f32) (harg13 : arg13.IsWhole) (arg14 : Memref sig .tc .vmem S1024x2 .f32) (harg14 : arg14.IsWhole) (arg15 : Memref sig .tc .vmem S1024x2 .i32) (harg15 : arg15.IsWhole) (arg16 : Memref sig .tc .vmem S1024x2 .i32) (harg16 : arg16.IsWhole) (arg17 : Memref sig .tc .vmem S1024x1 .f32) (harg17 : arg17.IsWhole) (arg18 : Memref sig .tc .vmem S1024x2 .f32) (harg18 : arg18.IsWhole) (arg19 : Memref sig .tc .vmem S1024x1 .f32) (harg19 : arg19.IsWhole) (x2 : Vec F S1024x512 .f32) (x3 : Vec F S8192x64 .f32) (x4 : Vec F S1x2x1024x512 .f32) (x5 : Vec F S1024x4 .f32) (x6 : Vec F S1024x512 .f32) (s : St F) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ held c arg7 arg8 arg9 arg10 arg11 arg12 arg13 arg14 arg15 arg16 arg17 arg18 arg19 s
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (nextOut i s x6) ∗ held c arg7 arg8 arg9 arg10 arg11 arg12 arg13 arg14 arg15 arg16 arg17 arg18 arg19 (next i x2 x3 x4 x5 s)) -∗ K ⟨⟩))
    ⊢ wp frame (wpE (defs₀ (F := F)) Variants.none c none) E (cc0__mcmc_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  obtain ⟨hp, h5, hfl⟩ := conds i
  unfold next nextOut
  rcases hp with ⟨h1, h3, h6, h9⟩ | ⟨h1, h3, h6, h9⟩ | ⟨h1, h3, h6, h9⟩ | ⟨h1, h3, h6, h9⟩
  · rw [if_pos h1, if_neg h9]
    by_cases hf : first i
    · rw [if_pos hf]; exact loadFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf E K
    · rw [if_neg hf]; exact load c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf E K
  · rw [if_neg h1, if_pos h3, if_neg h9]
    by_cases hf : first i
    · rw [if_pos hf]
      exact proposeFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf (fun h => hfl ⟨hf, (h5 h3).mp h⟩) E K
    · rw [if_neg hf]
      by_cases hl : last i
      · rw [if_pos hl]
        exact proposeLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf ((h5 h3).mpr hl) E K
      · rw [if_neg hl]
        exact propose c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf (fun h => hl ((h5 h3).mp h)) E K
  · rw [if_neg h1, if_neg h3, if_pos h6, if_neg h9]
    by_cases hf : first i
    · rw [if_pos hf]
      exact acceptFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf (fun h => hfl ⟨hf, h⟩) E K
    · rw [if_neg hf]
      by_cases hl : last i
      · rw [if_pos hl]; exact acceptLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf hl E K
      · rw [if_neg hl]; exact accept c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 hf hl E K
  · rw [if_neg h1, if_neg h3, if_neg h6, if_pos h9]
    exact write c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 s h1 h3 h6 h9 E K

end Cert.KernelIdeal.Body

end
-- ==== Proof.KernelIdeal.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdeal.Step
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The run: what the scratch buffers hold point by point, the body at every point, and the launch -/

variable (m : (ℓ : Loc nD τ sig) → Buf (Elt F) ℓ) (ρ : Dev nD → PrngReg)

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2x1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev sc0 : Memref sig .tc .vmem S1024x8192 .f32 := Memref.whole cc0_scratch0
abbrev sc1 : Memref sig .tc .vmem S1024x64 .f32 := Memref.whole cc0_scratch1
abbrev sc2 : Memref sig .tc .vmem S1024x64 .f32 := Memref.whole cc0_scratch2
abbrev sc3 : Memref sig .tc .vmem S1024x1 .f32 := Memref.whole cc0_scratch3
abbrev sc4 : Memref sig .tc .vmem S1024x1 .f32 := Memref.whole cc0_scratch4
abbrev sc5 : Memref sig .tc .vmem S1024x2 .f32 := Memref.whole cc0_scratch5
abbrev sc6 : Memref sig .tc .vmem S1024x2 .f32 := Memref.whole cc0_scratch6
abbrev sc7 : Memref sig .tc .vmem S1024x2 .f32 := Memref.whole cc0_scratch7
abbrev sc8 : Memref sig .tc .vmem S1024x2 .i32 := Memref.whole cc0_scratch8
abbrev sc9 : Memref sig .tc .vmem S1024x2 .i32 := Memref.whole cc0_scratch9
abbrev sc10 : Memref sig .tc .vmem S1024x1 .f32 := Memref.whole cc0_scratch10
abbrev sc11 : Memref sig .tc .vmem S1024x2 .f32 := Memref.whole cc0_scratch11
abbrev sc12 : Memref sig .tc .vmem S1024x1 .f32 := Memref.whole cc0_scratch12

/-- The scratch buffers held at the contents `s`. -/
abbrev heldAt (c : Dev nD) (s : St F) : sProp 𝕄 := held c sc0 sc1 sc2 sc3 sc4 sc5 sc6 sc7 sc8 sc9 sc10 sc11 sc12 s

/-- The body at a point, on the point's staging buffers and the scratch buffers. -/
theorem body_at (c : Dev nD) (t : Fin cfg0.N) (s : St F) (x6 : Vec F S1024x512 .f32) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare x6 ∗ heldAt c s
      ∗ ((owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (nextOut (grid0.coords t) s x6)
          ∗ heldAt c (next (grid0.coords t) (iblk m c 0 t) (iblk m c 1 t) (iblk m c 2 t) (iblk m c 3 t) s)) -∗ K ⟨⟩))
    ⊢ wp frame (wpE (defs₀ (F := F)) Variants.none c none) Set.univ (bodyAt0 t) K :=
  body c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) (iblk m c 0 t) (iblk m c 1 t) (iblk m c 2 t) (iblk m c 3 t) x6 s Set.univ K

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d)) ∗ (∃ r, prngReg c r)) := by
  unfold Pipeline.ΦA; rw [scopedRest0_eq]; simp only [sc0, sc1, sc2, sc3, sc4, sc5, sc6, sc7, sc8, sc9, sc10, sc11, sc12, owns_whole]; try rfl

variable (inv : Dev nD → ℕ → St F → Prop)

/-- The region's invariant before position `n`: at the start the scratch buffers at anything, afterwards at contents of which `inv`
holds. -/
def PhiS (c : Dev nD) : (n : ℕ) → n ≤ cfg0.N → sProp 𝕄
  | 0, _ => Pipeline.ΦA spec0 c
  | n + 1, _ => iprop((∃ s, ⌜inv c (n + 1) s⌝ ∗ heldAt c s) ∗ (∃ r, prngReg c r))

theorem PhiS_zero (c : Dev nD) (n : ℕ) (h : n ≤ cfg0.N) (hz : n = 0) : PhiS inv c n h = Pipeline.ΦA spec0 c := by
  subst hz; rfl

theorem PhiS_succ (c : Dev nD) (n : ℕ) (h : n + 1 ≤ cfg0.N) :
    PhiS inv c (n + 1) h = iprop((∃ s, ⌜inv c (n + 1) s⌝ ∗ heldAt c s) ∗ (∃ r, prngReg c r)) := rfl

/-- Before any position the scratch buffers hold some contents, of which `inv` holds unless the position is the first. -/
theorem PhiS_open (c : Dev nD) (n : ℕ) (h : n ≤ cfg0.N) :
    PhiS inv c n h ⊢ iprop((∃ s, ⌜n = 0 ∨ inv c n s⌝ ∗ heldAt c s) ∗ (∃ r, prngReg c r)) := by
  cases n with
  | zero =>
    rw [PhiS_zero inv c 0 h rfl, PhiA_eq]
    iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩, Hg⟩
    isplitr [Hg]
    · iexists (⟨d0, d1, d2, d3, d4, d5, d6, d7, d8, d9, d10, d11, d12⟩ : St F)
      isplitr
      · ipureintro; exact Or.inl rfl
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact Hg
  | succ n =>
    rw [PhiS_succ]
    iintro ⟨⟨%s, %hs, H⟩, Hg⟩
    isplitr [Hg]
    · iexists s
      isplitr
      · ipureintro; exact Or.inr hs
      iexact H
    iexact Hg

/-- After any point the scratch buffers' contents may be forgotten. -/
theorem PhiS_close (c : Dev nD) (n : ℕ) (h : n ≤ cfg0.N) (hz : n ≠ 0) : PhiS inv c n h ⊢ Pipeline.ΦA spec0 c := by
  cases n with
  | zero => exact absurd rfl hz
  | succ n =>
    rw [PhiS_succ, PhiA_eq]
    iintro ⟨⟨%s, -, ⟨H0, H1, H2, H3, H4, H5, H6, H7, H8, H9, H10, H11, H12⟩⟩, Hg⟩
    isplitr [Hg]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      iexists _; iexact H12
    iexact Hg

variable (aft : (c : Dev nD) → (t : Fin cfg0.N) → (cfg0.win 4).block.Idx → Elt F (cfg0.win 4).elt)

/-- The proof data: the arrays as the region finds them; after the body each input's buffer at its block and the output's at `aft`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => aft c t
  Φ t := PhiS inv c t.val (Nat.le_of_lt_succ t.isLt)
  q _ := fullShare
  owed _ := 0

theorem A_eq (c : Dev nD) (w : Fin cfg0.W) : (dats m inv aft 0 c).A w = V m c (Pipeline.arrRef spec0 w) := by
  dsimp only [dats]
theorem PhiS_castSucc (c : Dev nD) (t : Fin cfg0.N) :
    (dats m inv aft 0 c).Φ t.castSucc = PhiS inv c t.val (Nat.le_of_lt t.isLt) := by
  dsimp only [dats]; exact Pipeline.Dat.Φ_castSucc (PhiS inv c) t
theorem after_0 (c : Dev nD) (t : Fin cfg0.N) : (dats m inv aft 0 c).after 0 t = iblk m c 0 t := by dsimp only [dats]
theorem after_1 (c : Dev nD) (t : Fin cfg0.N) : (dats m inv aft 0 c).after 1 t = iblk m c 1 t := by dsimp only [dats]
theorem after_2 (c : Dev nD) (t : Fin cfg0.N) : (dats m inv aft 0 c).after 2 t = iblk m c 2 t := by dsimp only [dats]
theorem after_3 (c : Dev nD) (t : Fin cfg0.N) : (dats m inv aft 0 c).after 3 t = iblk m c 3 t := by dsimp only [dats]
theorem after_4 (c : Dev nD) (t : Fin cfg0.N) : (dats m inv aft 0 c).after 4 t = aft c t := by dsimp only [dats]
theorem before_0 (c : Dev nD) (t : Fin cfg0.N) (d) : (dats m inv aft 0 c).before 0 t d = iblk m c 0 t :=
  before0_0_of m (dats m inv aft 0 c) (A_eq m inv aft c 0) (after_0 m inv aft c) t d
theorem before_1 (c : Dev nD) (t : Fin cfg0.N) (d) : (dats m inv aft 0 c).before 1 t d = iblk m c 1 t :=
  before0_1_of m (dats m inv aft 0 c) (A_eq m inv aft c 1) (after_1 m inv aft c) t d
theorem before_2 (c : Dev nD) (t : Fin cfg0.N) (d) : (dats m inv aft 0 c).before 2 t d = iblk m c 2 t :=
  before0_2_of m (dats m inv aft 0 c) (A_eq m inv aft c 2) (after_2 m inv aft c) t d
theorem before_3 (c : Dev nD) (t : Fin cfg0.N) (d) : (dats m inv aft 0 c).before 3 t d = iblk m c 3 t :=
  before0_3_of m (dats m inv aft 0 c) (A_eq m inv aft c 3) (after_3 m inv aft c) t d
theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl

theorem defs₀_row (t : Fin cfg0.N) :
    defs₀ (F := F) .tc cfg0.body (cfg0.bodyArgs t (cfg0.slots t)) = bodyAt0 t := by
  unfold defs₀; rw [Defs.onTc_tc]

theorem hin (c : Dev nD) : Pipeline.ΦA spec0 c ⊢ (dats m inv aft 0 c).Φ 0 := by
  rw [show (dats m inv aft 0 c).Φ 0 = PhiS inv c 0 (Nat.zero_le _) from rfl, PhiS_zero inv c 0 _ rfl]
  try exact Idealize.SL.BI.Entails.refl _
theorem hout (c : Dev nD) : (dats m inv aft 0 c).Φ (Fin.last cfg0.N) ⊢ Pipeline.ΦA spec0 c := by
  rw [show (dats m inv aft 0 c).Φ (Fin.last cfg0.N) = PhiS inv c cfg0.N le_rfl from rfl]
  exact PhiS_close inv c _ _ (by have : cfg0.N = 160 := N_0; omega)

/-! ### With the output's contents forgotten: the frame -/

/-- The output's window, of whose contents the frame says nothing. -/
def forgets : Fin 5 → Bool := fun w => w.val == 4

def bodyPre (c : Dev nD) (t : Fin cfg0.N) : sProp 𝕄 :=
  iprop((dats m inv aft 0 c).Φ t.castSucc ∗ (dats m inv aft 0 c).owesAt () t.castSucc
    ∗ (∃ d, owns (c : Thread nD τ) (ms0 t) fullShare ((dats m inv aft 0 c).before 0 t d)) ∗ (∃ d, owns (c : Thread nD τ) (ms1 t) fullShare ((dats m inv aft 0 c).before 1 t d)) ∗ (∃ d, owns (c : Thread nD τ) (ms2 t) fullShare ((dats m inv aft 0 c).before 2 t d)) ∗ (∃ d, owns (c : Thread nD τ) (ms3 t) fullShare ((dats m inv aft 0 c).before 3 t d))
    ∗ (∃ d, owns (c : Thread nD τ) (ms4 t) fullShare d))
def bodyPost (c : Dev nD) (t : Fin cfg0.N) : sProp 𝕄 :=
  iprop((dats m inv aft 0 c).Φ t.succ ∗ (dats m inv aft 0 c).owesAt () t.succ
    ∗ (dats m inv aft 0 c).leavesExact 0 t ∗ (dats m inv aft 0 c).leavesExact 1 t ∗ (dats m inv aft 0 c).leavesExact 2 t ∗ (dats m inv aft 0 c).leavesExact 3 t
    ∗ (∃ d, owns (c : Thread nD τ) (ms4 t) fullShare d))

theorem sound_frame (hstep : ∀ c t s, inv c t s) (c : Dev nD) (t : Fin cfg0.N) :
    bodyPre m inv aft c t ⊢ wp frame (wpE (defs₀ (F := F)) Variants.none c none) Set.univ (bodyAt0 t) (fun _ => bodyPost m inv aft c t) := by
  unfold bodyPre bodyPost
  simp only [before_0, before_1, before_2, before_3]
  rw [show (dats m inv aft 0 c).owesAt () t.succ = (dats m inv aft 0 c).owesAt () t.castSucc from rfl]
  rw [show (dats m inv aft 0 c).Φ t.succ = PhiS inv c (t.val + 1) t.isLt from rfl, PhiS_succ, PhiS_castSucc]
  rw [show (dats m inv aft 0 c).leavesExact 0 t = owns (c : Thread nD τ) (ms0 t) fullShare ((dats m inv aft 0 c).after 0 t) from by
    unfold Dat.leavesExact; rw [liveAt_0 t], after_0]
  rw [show (dats m inv aft 0 c).leavesExact 1 t = owns (c : Thread nD τ) (ms1 t) fullShare ((dats m inv aft 0 c).after 1 t) from by
    unfold Dat.leavesExact; rw [liveAt_1 t], after_1]
  rw [show (dats m inv aft 0 c).leavesExact 2 t = owns (c : Thread nD τ) (ms2 t) fullShare ((dats m inv aft 0 c).after 2 t) from by
    unfold Dat.leavesExact; rw [liveAt_2 t], after_2]
  rw [show (dats m inv aft 0 c).leavesExact 3 t = owns (c : Thread nD τ) (ms3 t) fullShare ((dats m inv aft 0 c).after 3 t) from by
    unfold Dat.leavesExact; rw [liveAt_3 t], after_3]
  iintro ⟨HΦ, Ho, ⟨%d0, H0⟩, ⟨%d1, H1⟩, ⟨%d2, H2⟩, ⟨%d3, H3⟩, ⟨%d4, H4⟩⟩
  ihave ⟨⟨%s, %hs, HS⟩, Hg⟩ := PhiS_open inv c t.val (Nat.le_of_lt t.isLt) $$ HΦ
  iapply (body_at m c t s d4 _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitr [Hg]
    · iexists _; isplitr
      swap; · iexact HS
      ipureintro; exact hstep _ _ _
    iexact Hg
  isplitl [Ho]; · iexact Ho
  isplitl [H0]; · iexact H0
  isplitl [H1]; · iexact H1
  isplitl [H2]; · iexact H2
  isplitl [H3]; · iexact H3
  iexists _; iexact H4

theorem obligation_frame (hstep : ∀ c t s, inv c t s) (c : Dev nD) :
    BodyObligation (dats (F := F) m inv aft 0 c) (defs₀ (F := F)) Variants.none () Set.univ forgets := fun t => by
  rw [bigSep_W0, bigSep_W0, defs₀_row]
  exact triple_restated (sound_frame m inv aft hstep c t) rfl .rfl fun _ => .rfl

/-- The proof data of the frame: nothing is said of the scratch buffers or of the output. -/
abbrev datsF := dats (F := F) m (fun _ _ _ => True) (fun _ t => Pipeline.Dat.unnamed (cfg := cfg0) 4 t)

set_option backward.isDefEq.respectTransparency.types false in
theorem run_frame : θ_run defs (onTc (τ := τ) (main (F := F))) (s₀ m ρ)
    (fun r => (Pipeline.RDat.FramePost (cfgs 0) (fun c => (datsF m 0 c).toRForget forgets) (V m)) r ∧ r.2.sem = fun _ => 0) :=
  Pipeline.θ_run_frame_track_forget (Q' := _) cfgs (datsF m) (0 : Fin 1) launch0 defs₀ Variants.none forgets m ρ main
    (hbody := fun c => (obligation_frame m _ _ (fun _ _ _ => trivial) c).loose) (hshare := fun c => (datsF m 0 c).share_full fun _ => rfl)
    (howed := fun _ _ => rfl) (V := V m) (hmain := hmain m Variants.none) (hA := A_eq m _ _) (hin := hin m _ _) (hout := hout m _ _)

/-- Every run of the program ends, with the arguments as they were and every semaphore at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 0 rfl).trans ((A_eq m (fun _ _ _ => True) (fun _ t => Pipeline.Dat.unnamed (cfg := cfg0) 4 t) c 0).trans (V_main_arg0 m c)),
     (Pipeline.RDat.FramePost.arr_in h.1 c 1 rfl).trans ((A_eq m (fun _ _ _ => True) (fun _ t => Pipeline.Dat.unnamed (cfg := cfg0) 4 t) c 1).trans (V_main_arg1 m c)),
     (Pipeline.RDat.FramePost.arr_in h.1 c 2 rfl).trans ((A_eq m (fun _ _ _ => True) (fun _ t => Pipeline.Dat.unnamed (cfg := cfg0) 4 t) c 2).trans (V_main_arg2 m c)),
     (Pipeline.RDat.FramePost.arr_in h.1 c 3 rfl).trans ((A_eq m (fun _ _ _ => True) (fun _ t => Pipeline.Dat.unnamed (cfg := cfg0) 4 t) c 3).trans (V_main_arg3 m c))⟩, h.2⟩) (run_frame m ρ)

/-! ### With the output's contents stated -/

/-- The output is written back exactly at the points of the writing phase. -/
theorem flush_out : ∀ t : Fin cfg0.N, (cfg0.win 4).flush t = (k0_cond9 (grid0.coords t) == 1#1) := by decide +kernel

def exactPre (c : Dev nD) (t : Fin cfg0.N) : sProp 𝕄 :=
  iprop((dats m inv aft 0 c).Φ t.castSucc ∗ (dats m inv aft 0 c).owesAt () t.castSucc
    ∗ (∃ d, owns (c : Thread nD τ) (ms0 t) fullShare ((dats m inv aft 0 c).before 0 t d)) ∗ (∃ d, owns (c : Thread nD τ) (ms1 t) fullShare ((dats m inv aft 0 c).before 1 t d)) ∗ (∃ d, owns (c : Thread nD τ) (ms2 t) fullShare ((dats m inv aft 0 c).before 2 t d)) ∗ (∃ d, owns (c : Thread nD τ) (ms3 t) fullShare ((dats m inv aft 0 c).before 3 t d)) ∗ (∃ d, owns (c : Thread nD τ) (ms4 t) fullShare ((dats m inv aft 0 c).before 4 t d)))
def exactPost (c : Dev nD) (t : Fin cfg0.N) : sProp 𝕄 :=
  iprop((dats m inv aft 0 c).Φ t.succ ∗ (dats m inv aft 0 c).owesAt () t.succ
    ∗ (dats m inv aft 0 c).leavesExact 0 t ∗ (dats m inv aft 0 c).leavesExact 1 t ∗ (dats m inv aft 0 c).leavesExact 2 t ∗ (dats m inv aft 0 c).leavesExact 3 t ∗ (dats m inv aft 0 c).leavesExact 4 t)

theorem sound_exact
    (hstep : ∀ (c : Dev nD) (t : Fin cfg0.N) (s : St F), (t.val = 0 ∨ inv c t.val s) → inv c (t.val + 1) (next (grid0.coords t) (iblk m c 0 t) (iblk m c 1 t) (iblk m c 2 t) (iblk m c 3 t) s))
    (hlast : ∀ (c : Dev nD) (t : Fin cfg0.N) (s : St F), (t.val = 0 ∨ inv c t.val s) → k0_cond9 (grid0.coords t) = 1#1 →
      outC (grid0.coords t) s = aft c t)
    (c : Dev nD) (t : Fin cfg0.N) :
    exactPre m inv aft c t ⊢ wp frame (wpE (defs₀ (F := F)) Variants.none c none) Set.univ (bodyAt0 t) (fun _ => exactPost m inv aft c t) := by
  unfold exactPre exactPost
  simp only [before_0, before_1, before_2, before_3]
  rw [show (dats m inv aft 0 c).owesAt () t.succ = (dats m inv aft 0 c).owesAt () t.castSucc from rfl]
  rw [show (dats m inv aft 0 c).Φ t.succ = PhiS inv c (t.val + 1) t.isLt from rfl, PhiS_succ, PhiS_castSucc]
  rw [show (dats m inv aft 0 c).leavesExact 0 t = owns (c : Thread nD τ) (ms0 t) fullShare ((dats m inv aft 0 c).after 0 t) from by
    unfold Dat.leavesExact; rw [liveAt_0 t], after_0]
  rw [show (dats m inv aft 0 c).leavesExact 1 t = owns (c : Thread nD τ) (ms1 t) fullShare ((dats m inv aft 0 c).after 1 t) from by
    unfold Dat.leavesExact; rw [liveAt_1 t], after_1]
  rw [show (dats m inv aft 0 c).leavesExact 2 t = owns (c : Thread nD τ) (ms2 t) fullShare ((dats m inv aft 0 c).after 2 t) from by
    unfold Dat.leavesExact; rw [liveAt_2 t], after_2]
  rw [show (dats m inv aft 0 c).leavesExact 3 t = owns (c : Thread nD τ) (ms3 t) fullShare ((dats m inv aft 0 c).after 3 t) from by
    unfold Dat.leavesExact; rw [liveAt_3 t], after_3]
  iintro ⟨HΦ, Ho, ⟨%d0, H0⟩, ⟨%d1, H1⟩, ⟨%d2, H2⟩, ⟨%d3, H3⟩, ⟨%d4, H4⟩⟩
  ihave ⟨⟨%s, %hs, HS⟩, Hg⟩ := PhiS_open inv c t.val (Nat.le_of_lt t.isLt) $$ HΦ
  iapply (body_at m c t s _ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitr [Hg]
    · iexists _; isplitr
      swap; · iexact HS
      ipureintro; exact hstep c t s hs
    iexact Hg
  isplitl [Ho]; · iexact Ho
  isplitl [H0]; · iexact H0
  isplitl [H1]; · iexact H1
  isplitl [H2]; · iexact H2
  isplitl [H3]; · iexact H3
  by_cases h9 : k0_cond9 (grid0.coords t) = 1#1
  · rw [show (dats m inv aft 0 c).leavesExact 4 t = owns (c : Thread nD τ) (ms4 t) fullShare ((dats m inv aft 0 c).after 4 t) from by
      unfold Dat.leavesExact; rw [show cfg0.idle 4 (grid0.coords t) = false from by
        show (!(k0_cond9 (grid0.coords t) == 1#1)) = false
        rw [h9]; rfl], after_4, ← hlast c t s hs h9]
    unfold nextOut
    rw [if_pos h9]
    iexact H4
  · have hb : (k0_cond9 (grid0.coords t) == 1#1) = false := by simpa using h9
    rw [Dat.leavesExact_idle _ 4 t (by show (!(k0_cond9 (grid0.coords t) == 1#1)) = true; rw [hb]; rfl)
      ((flush_out t).trans hb)]
    unfold nextOut
    rw [if_neg h9]
    iexists _; iexact H4

theorem obligation_exact
    (hstep : ∀ (c : Dev nD) (t : Fin cfg0.N) (s : St F), (t.val = 0 ∨ inv c t.val s) → inv c (t.val + 1) (next (grid0.coords t) (iblk m c 0 t) (iblk m c 1 t) (iblk m c 2 t) (iblk m c 3 t) s))
    (hlast : ∀ (c : Dev nD) (t : Fin cfg0.N) (s : St F), (t.val = 0 ∨ inv c t.val s) → k0_cond9 (grid0.coords t) = 1#1 →
      outC (grid0.coords t) s = aft c t) (c : Dev nD) :
    BodyObligation (dats (F := F) m inv aft 0 c) (defs₀ (F := F)) Variants.none () Set.univ := fun t => by
  rw [bigSep_W0, bigSep_W0, defs₀_row]
  exact triple_restated (sound_exact m inv aft hstep hlast c t) rfl .rfl fun _ => .rfl

set_option backward.isDefEq.respectTransparency.types false in
/-- The run with the output's blocks stated, from an invariant that every point preserves. -/
theorem run_exact
    (hstep : ∀ (c : Dev nD) (t : Fin cfg0.N) (s : St F), (t.val = 0 ∨ inv c t.val s) → inv c (t.val + 1) (next (grid0.coords t) (iblk m c 0 t) (iblk m c 1 t) (iblk m c 2 t) (iblk m c 3 t) s))
    (hlast : ∀ (c : Dev nD) (t : Fin cfg0.N) (s : St F), (t.val = 0 ∨ inv c t.val s) → k0_cond9 (grid0.coords t) = 1#1 →
      outC (grid0.coords t) s = aft c t) :
    θ_run defs (onTc (τ := τ) (main (F := F))) (s₀ m ρ)
      (fun r => Pipeline.FramePost cfgs (dats m inv aft) 0 (V m) r ∧ r.2.sem = fun _ => 0) :=
  Pipeline.θ_run_frame_track (Q' := _) cfgs (dats m inv aft) (0 : Fin 1) launch0 defs₀ Variants.none m ρ main
    (hbody := fun c => (obligation_exact m inv aft hstep hlast c).loose) (hshare := fun c => (dats m inv aft 0 c).share_full fun _ => rfl)
    (howed := fun _ _ => rfl) (V := V m) (hmain := hmain m Variants.none) (hA := A_eq m inv aft) (hin := hin m inv aft) (hout := hout m inv aft)
    (hQ' := fun _ h => h)

end Cert.KernelIdeal.Body

end
-- ==== Proof.KernelIdeal.Value.lean ====
module

public import proofs.«01_k».proof.Proof.KernelIdeal.Phases
public import proofs.«01_k».proof.Proof.KernelIdeal.Run
public import Idealize.ShloMosaic.Lib.Pipeline.ValueKit

@[expose] public section

set_option maxRecDepth 16384

noncomputable section

namespace Cert.KernelIdeal.Value

open Cert.KernelIdeal Cert.KernelIdeal.Gen Cert.KernelIdeal.Body Cert.KernelIdeal.Phases
open Idealize.ShloMosaic Idealize.ShloMosaic.TcCoe Idealize.ShloMosaic.Tactic
open Idealize.SL Idealize.SL.Sem
open Cert.Chain (at' chain draw step)

/-! ## The kernel leaves the chain's state after four steps -/

/-- The grid points: the phase and the column block of a point, which branches the body takes there, and the blocks it is given. -/
theorem points : ∀ t : Fin cfg0.N, t.val / 16 < 10 ∧ (grid0.coords t 0).val = t.val / 16 ∧ (grid0.coords t 1).val = t.val % 16
    ∧ (k0_cond1 (grid0.coords t) = 1#1 ↔ t.val / 16 = 0)
    ∧ (k0_cond3 (grid0.coords t) = 1#1 ↔ t.val / 16 % 2 = 1 ∧ t.val / 16 < 8)
    ∧ (k0_cond6 (grid0.coords t) = 1#1 ↔ t.val / 16 % 2 = 0 ∧ 2 ≤ t.val / 16)
    ∧ (k0_cond9 (grid0.coords t) = 1#1 ↔ t.val / 16 = 9)
    ∧ (first (grid0.coords t) ↔ t.val % 16 = 0) ∧ (last (grid0.coords t) ↔ t.val % 16 = 15) :=
  (by decide +kernel : ∀ t : Fin grid0.N, _)

theorem index0 : ∀ t : Fin cfg0.N, t.val / 16 = 0 → win0_0.index t = ![0, t.val % 16] := (by decide +kernel : ∀ t : Fin grid0.N, _)
theorem index1 : ∀ t : Fin cfg0.N, win0_1.index t = ![0, 0] := (by decide +kernel : ∀ t : Fin grid0.N, _)
theorem index2 : ∀ t : Fin cfg0.N, t.val / 16 % 2 = 1 ∧ t.val / 16 < 8 → win0_2.index t = ![(t.val / 16 - 1) / 2, 0, 0, t.val % 16] :=
  (by decide +kernel : ∀ t : Fin grid0.N, _)
theorem index3 : ∀ t : Fin cfg0.N, win0_3.index t = ![0, 0] := (by decide +kernel : ∀ t : Fin grid0.N, _)
theorem index4 : ∀ t : Fin cfg0.N, t.val / 16 = 9 → win0_4.index t = ![0, t.val % 16] := (by decide +kernel : ∀ t : Fin grid0.N, _)

variable (m : (ℓ : Loc nD τ sig) → Buf (Elt Ideal) ℓ) (ρ : Dev nD → PrngReg)

theorem block0 (c : Dev nD) (t : Fin cfg0.N) (h : t.val / 16 = 0) (k : Fin 16) (hk : t.val % 16 = k.val) (b : Fin 1024) (q : Fin 512) :
    iblk m c 0 t (ix2 b q) = m ((c.tc : Thread nD τ).loc main_arg0) (ix2 b (at' k q)) := by
  have e := index0 t h
  have e' : (at' k q).val = k.val * 512 + q.val := rfl
  blk_ext [iblk, V, e]
theorem block1 (c : Dev nD) (t : Fin cfg0.N) (d : Fin 8192) (r : Fin 64) :
    iblk m c 1 t (ix2 d r) = m ((c.tc : Thread nD τ).loc main_arg1) (ix2 d r) := by
  have e := index1 t
  blk_ext [iblk, V, e]
theorem block2 (c : Dev nD) (t : Fin cfg0.N) (s : Fin 4) (h : t.val / 16 = 2 * s.val + 1) (k : Fin 16) (hk : t.val % 16 = k.val) (j : Fin 2) (b : Fin 1024) (q : Fin 512) :
    iblk m c 2 t (ix4 0 j b q) = m ((c.tc : Thread nD τ).loc main_arg2) (ix4 s j b (at' k q)) := by
  have e := index2 t (by omega)
  have e' : (at' k q).val = k.val * 512 + q.val := rfl
  have e'' : (t.val / 16 - 1) / 2 = s.val := by omega
  rw [e''] at e
  blk_ext [iblk, V, e]
theorem block3 (c : Dev nD) (t : Fin cfg0.N) (b : Fin 1024) (s : Fin 4) :
    iblk m c 3 t (ix2 b s) = m ((c.tc : Thread nD τ).loc main_arg3) (ix2 b s) := by
  have e := index3 t
  blk_ext [iblk, V, e]

variable (X : Dev nD → Fin 1024 → Fin 8192 → ℝ) (U : Dev nD → Fin 8192 → Fin 64 → ℝ) (G : Dev nD → Fin 1024 → Fin 4 → Fin 2 → Fin 8192 → ℝ)
  (A : Dev nD → Fin 1024 → Fin 4 → EReal)

/-- The state of the chain `b` after so many steps. -/
def after (c : Dev nD) (b : Fin 1024) (t : ℕ) : Fin 8192 → ℝ := chain (U c) (X c b) (G c b) (A c b) t

/-- What the scratch buffers hold before the grid point `n`. -/
def inv (c : Dev nD) (n : ℕ) (s : St Ideal) : Prop := ∀ (b : Fin 1024) (p k : ℕ), n = 16 * p + k → k < 16 →
  (p = 0 → 0 < k → Load (U c) (X c b) b k s)
    ∧ (∀ t : Fin 4, p = 2 * t.val + 1 → (k = 0 → Start (U c) (after X U G A c b t.val) b s)
        ∧ (0 < k → Prop' (U c) (after X U G A c b t.val) (G c b t) b k s))
    ∧ (∀ t : Fin 4, p = 2 * t.val + 2 →
        (k = 0 → Mid (U c) (after X U G A c b t.val) (draw (U c) (after X U G A c b t.val) (G c b t 0)) (draw (U c) (after X U G A c b t.val) (G c b t 1)) b s)
        ∧ (0 < k → Acc (U c) (after X U G A c b t.val) (draw (U c) (after X U G A c b t.val) (G c b t 0)) (draw (U c) (after X U G A c b t.val) (G c b t 1)) b k s))
    ∧ (p = 9 → Start (U c) (after X U G A c b 4) b s)

section
variable {m X U G A}
variable (hX : ∀ (c : Dev nD) b d, m ((c.tc : Thread nD τ).loc main_arg0) (ix2 b d) = (X c b d : EReal))
  (hU : ∀ (c : Dev nD) d r, m ((c.tc : Thread nD τ).loc main_arg1) (ix2 d r) = (U c d r : EReal))
  (hG : ∀ (c : Dev nD) t j b d, m ((c.tc : Thread nD τ).loc main_arg2) (ix4 t j b d) = (G c b t j d : EReal))
  (hA : ∀ (c : Dev nD) b t, m ((c.tc : Thread nD τ).loc main_arg3) (ix2 b t) = A c b t)
include hX hU hG hA

theorem step_load (c : Dev nD) (t : Fin cfg0.N) (s : St Ideal) (h : t.val = 0 ∨ inv X U G A c t.val s) (hp : t.val / 16 = 0) :
    inv X U G A c (t.val + 1) (next (grid0.coords t) (iblk m c 0 t) (iblk m c 1 t) (iblk m c 2 t) (iblk m c 3 t) s) := by
  obtain ⟨-, i0, i1, c1, c3, c6, c9, hf, hl⟩ := points t
  have hk : (grid0.coords t 1).val = (⟨t.val % 16, by omega⟩ : Fin 16).val := i1
  have hu : ∀ d r, iblk m c 1 t (ix2 d r) = (U c d r : EReal) := fun d r => (block1 m c t d r).trans (hU c d r)
  intro b p k hn hk16
  have hx : ∀ q, iblk m c 0 t (ix2 b q) = (X c b (at' ⟨t.val % 16, by omega⟩ q) : EReal) := fun q => (block0 m c t hp ⟨t.val % 16, by omega⟩ rfl b q).trans (hX c b _)
  have hL : Load (U c) (X c b) b (t.val % 16 + 1) (next (grid0.coords t) (iblk m c 0 t) (iblk m c 1 t) (iblk m c 2 t) (iblk m c 3 t) s) := by
    unfold next
    rw [if_pos (c1.2 hp)]
    by_cases h0 : t.val % 16 = 0
    · rw [if_pos (hf.2 h0)]
      exact load_step hk hx hu (by show Load _ _ _ (t.val % 16) _; rw [h0]; exact load_init s)
    · rw [if_neg fun h => h0 (hf.1 h)]
      exact load_step hk hx hu ((h.resolve_left (by omega) b 0 (t.val % 16) (by omega) (by omega)).1 rfl (by omega))
  refine ⟨fun h0 hk0 => ?_, fun u hu' => ⟨fun hk0 => ?_, fun hk0 => by omega⟩, fun u hu' => by omega, fun h9 => by omega⟩
  · rw [show k = t.val % 16 + 1 by omega]; exact hL
  · rw [show u.val = 0 by omega]
    rw [show t.val % 16 + 1 = 16 by omega] at hL
    exact load_end hL

theorem step_prop (c : Dev nD) (t : Fin cfg0.N) (s : St Ideal) (h : inv X U G A c t.val s) (u : Fin 4) (hp : t.val / 16 = 2 * u.val + 1) :
    inv X U G A c (t.val + 1) (next (grid0.coords t) (iblk m c 0 t) (iblk m c 1 t) (iblk m c 2 t) (iblk m c 3 t) s) := by
  obtain ⟨-, i0, i1, c1, c3, c6, c9, hf, hl⟩ := points t
  have hk : (grid0.coords t 1).val = (⟨t.val % 16, by omega⟩ : Fin 16).val := i1
  have hu : ∀ d r, iblk m c 1 t (ix2 d r) = (U c d r : EReal) := fun d r => (block1 m c t d r).trans (hU c d r)
  intro b p k hn hk16
  have hg : ∀ j q, iblk m c 2 t (ix4 0 j b q) = (G c b u j (at' ⟨t.val % 16, by omega⟩ q) : EReal) :=
    fun j q => (block2 m c t u hp ⟨t.val % 16, by omega⟩ rfl j b q).trans (hG c u j b _)
  have hb := (h b (t.val / 16) (t.val % 16) (by omega) (by omega)).2.1 u hp
  unfold next
  rw [if_neg (fun h => by have := c1.1 h; omega), if_pos (c3.2 (by omega))]
  by_cases h0 : t.val % 16 = 0
  · rw [if_pos (hf.2 h0)]
    have hP := prop_step hk hu hg (s := initA s) (X := after X U G A c b u.val) (g := G c b u)
      (by show Prop' _ _ _ _ (t.val % 16) _; rw [h0]; exact prop_init (hb.1 h0))
    refine ⟨by omega, fun u' hu' => ⟨by omega, fun _ => ?_⟩, fun u' hu' => by omega, by omega⟩
    obtain rfl : u' = u := Fin.ext (by omega)
    rw [show k = t.val % 16 + 1 by omega]; exact hP
  · rw [if_neg fun h => h0 (hf.1 h)]
    have hP := prop_step hk hu hg (hb.2 (by omega))
    by_cases h15 : t.val % 16 = 15
    · rw [if_pos (hl.2 h15)]
      rw [show (⟨t.val % 16, by omega⟩ : Fin 16).val + 1 = 16 by simp only [h15]] at hP
      refine ⟨by omega, fun u' hu' => by omega, fun u' hu' => ⟨fun _ => ?_, by omega⟩, by omega⟩
      obtain rfl : u' = u := Fin.ext (by omega)
      exact prop_end hu hP
    · rw [if_neg fun h => h15 (hl.1 h)]
      refine ⟨by omega, fun u' hu' => ⟨by omega, fun _ => ?_⟩, fun u' hu' => by omega, by omega⟩
      obtain rfl : u' = u := Fin.ext (by omega)
      rw [show k = t.val % 16 + 1 by omega]; exact hP

theorem step_acc (c : Dev nD) (t : Fin cfg0.N) (s : St Ideal) (h : inv X U G A c t.val s) (u : Fin 4) (hp : t.val / 16 = 2 * u.val + 2) :
    inv X U G A c (t.val + 1) (next (grid0.coords t) (iblk m c 0 t) (iblk m c 1 t) (iblk m c 2 t) (iblk m c 3 t) s) := by
  obtain ⟨-, i0, i1, c1, c3, c6, c9, hf, hl⟩ := points t
  have hk : (grid0.coords t 1).val = (⟨t.val % 16, by omega⟩ : Fin 16).val := i1
  have hu : ∀ d r, iblk m c 1 t (ix2 d r) = (U c d r : EReal) := fun d r => (block1 m c t d r).trans (hU c d r)
  intro b p k hn hk16
  have hb := (h b (t.val / 16) (t.val % 16) (by omega) (by omega)).2.2.1 u hp
  unfold next
  rw [if_neg (fun h => by have := c1.1 h; omega), if_neg (fun h => by have := c3.1 h; omega), if_pos (c6.2 (by omega))]
  by_cases h0 : t.val % 16 = 0
  · rw [if_pos (hf.2 h0)]
    have hP := acc_step hk hu (by show Acc _ _ _ _ _ (t.val % 16) _; rw [h0]; exact acc_init (hb.1 h0))
    refine ⟨by omega, fun u' hu' => by omega, fun u' hu' => ⟨by omega, fun _ => ?_⟩, by omega⟩
    obtain rfl : u' = u := Fin.ext (by omega)
    rw [show k = t.val % 16 + 1 by omega]; exact hP
  · rw [if_neg fun h => h0 (hf.1 h)]
    have hP := acc_step hk hu (hb.2 (by omega))
    by_cases h15 : t.val % 16 = 15
    · rw [if_pos (hl.2 h15)]
      rw [show (⟨t.val % 16, by omega⟩ : Fin 16).val + 1 = 16 by simp only [h15]] at hP
      have hS := acc_end (i := grid0.coords t) (t := u) (i0.trans hp) (a := iblk m c 3 t) hP
      rw [(block3 m c t b u).trans (hA c b u)] at hS
      have e : step (U c) (after X U G A c b u.val) (G c b u) (A c b u) = after X U G A c b (u.val + 1) := (Chain.chain_succ (U c) (X c b) (G c b) (A c b) u).symm
      rw [e] at hS
      refine ⟨by omega, fun u' hu' => ⟨fun _ => ?_, by omega⟩, fun u' hu' => by omega, fun h9 => ?_⟩
      · rw [show u'.val = u.val + 1 by omega]; exact hS
      · rw [show u.val + 1 = 4 by omega] at hS; exact hS
    · rw [if_neg fun h => h15 (hl.1 h)]
      refine ⟨by omega, fun u' hu' => by omega, fun u' hu' => ⟨by omega, fun _ => ?_⟩, by omega⟩
      obtain rfl : u' = u := Fin.ext (by omega)
      rw [show k = t.val % 16 + 1 by omega]; exact hP

theorem step_write (c : Dev nD) (t : Fin cfg0.N) (s : St Ideal) (h : inv X U G A c t.val s) (hp : t.val / 16 = 9) :
    inv X U G A c (t.val + 1) (next (grid0.coords t) (iblk m c 0 t) (iblk m c 1 t) (iblk m c 2 t) (iblk m c 3 t) s) := by
  obtain ⟨-, i0, i1, c1, c3, c6, c9, hf, hl⟩ := points t
  intro b p k hn hk16
  unfold next
  rw [if_neg (fun h => by have := c1.1 h; omega), if_neg (fun h => by have := c3.1 h; omega), if_neg (fun h => by have := c6.1 h; omega)]
  exact ⟨by omega, fun u' hu' => by omega, fun u' hu' => by omega, fun h9 => (h b (t.val / 16) (t.val % 16) (by omega) (by omega)).2.2.2 hp⟩

theorem steps (c : Dev nD) (t : Fin cfg0.N) (s : St Ideal) (h : t.val = 0 ∨ inv X U G A c t.val s) :
    inv X U G A c (t.val + 1) (next (grid0.coords t) (iblk m c 0 t) (iblk m c 1 t) (iblk m c 2 t) (iblk m c 3 t) s) := by
  have hlt := (points t).1
  by_cases hp : t.val / 16 = 0
  · exact step_load hX hU hG hA c t s h hp
  have h' := h.resolve_left (by omega)
  by_cases h9 : t.val / 16 = 9
  · exact step_write hX hU hG hA c t s h' h9
  by_cases h2 : t.val / 16 % 2 = 1
  · exact step_prop hX hU hG hA c t s h' ⟨(t.val / 16 - 1) / 2, by omega⟩ (by show _ = 2 * ((t.val / 16 - 1) / 2) + 1; omega)
  · exact step_acc hX hU hG hA c t s h' ⟨(t.val / 16 - 2) / 2, by omega⟩ (by show _ = 2 * ((t.val / 16 - 2) / 2) + 2; omega)
end

/-- The result: the state of every chain after four steps. -/
def result (c : Dev nD) : Vec Ideal S1024x8192 .f32 := fun i => (after X U G A c (i 0) 4 (i 1) : EReal)

/-- The block of the result that a grid point writes. -/
def aft (c : Dev nD) (t : Fin cfg0.N) : Vec Ideal S1024x512 .f32 :=
  fun i => (after X U G A c (i 0) 4 (at' ⟨t.val % 16, by omega⟩ (i 1)) : EReal)

theorem last_block (c : Dev nD) (t : Fin cfg0.N) (s : St Ideal) (h : t.val = 0 ∨ inv X U G A c t.val s) (h9 : k0_cond9 (grid0.coords t) = 1#1) :
    outC (grid0.coords t) s = aft X U G A c t := by
  obtain ⟨-, i0, i1, c1, c3, c6, c9, hf, hl⟩ := points t
  have hp := c9.1 h9
  funext i
  obtain ⟨b, q, rfl⟩ : ∃ (b : Fin 1024) (q : Fin 512), i = ix2 b q := ⟨i 0, i 1, by funext a; fin_cases a <;> rfl⟩
  have hb := (h.resolve_left (by omega) b (t.val / 16) (t.val % 16) (by omega) (by omega)).2.2.2 hp
  exact out_at (k := ⟨t.val % 16, by omega⟩) i1 hb.2 q

/-- The result array after the run. -/
theorem final (c : Dev nD) : (dats m (inv X U G A) (aft X U G A) 0 c).arrAt 4 cfg0.N = result X U G A c := by
  refine (dats m (inv X U G A) (aft X U G A) 0 c).arrAt_eq_of_covers 4 _ (by decide +kernel) fun t hf y => ?_
  have hp : t.val / 16 = 9 := (points t).2.2.2.2.2.2.1.1 (by rw [flush_out] at hf; simpa using hf)
  have e := index4 t hp
  blk_simp
  rw [after_4]
  unfold aft result
  have hv : ∀ (b b' : Fin 1024) (d d' : Fin 8192), b = b' → d = d' → (after X U G A c b 4 d : EReal) = (after X U G A c b' 4 d' : EReal) := by
    rintro b _ d _ rfl rfl; rfl
  refine hv _ _ _ _ (Fin.ext ?_) (Fin.ext ?_)
  · blk_simp [e]
  · show t.val % 16 * 512 + (y 1).val = _
    blk_simp [e]

/-- Every run of the program ends, the result the chains' states after four steps and the arguments as they were. -/
theorem run (hX : ∀ (c : Dev nD) b d, m ((c.tc : Thread nD τ).loc main_arg0) (ix2 b d) = (X c b d : EReal))
    (hU : ∀ (c : Dev nD) d r, m ((c.tc : Thread nD τ).loc main_arg1) (ix2 d r) = (U c d r : EReal))
    (hG : ∀ (c : Dev nD) t j b d, m ((c.tc : Thread nD τ).loc main_arg2) (ix4 t j b d) = (G c b t j d : EReal))
    (hA : ∀ (c : Dev nD) b t, m ((c.tc : Thread nD τ).loc main_arg3) (ix2 b t) = A c b t) :
    θ_run defs (onTc (τ := τ) (main (F := Ideal))) ⟨m, fun _ => 0, ρ⟩ (fun r => ∀ c : Dev nD,
      r.2.mem ((c.tc : Thread nD τ).loc main_v0) = result X U G A c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 4).trans (final m X U G A c),
     ((h.1 c).1 0).trans (((dats m (inv X U G A) (aft X U G A) 0 c).arrAt_in 0 rfl _).trans ((A_eq m _ _ c 0).trans (V_main_arg0 m c))),
     ((h.1 c).1 1).trans (((dats m (inv X U G A) (aft X U G A) 0 c).arrAt_in 1 rfl _).trans ((A_eq m _ _ c 1).trans (V_main_arg1 m c))),
     ((h.1 c).1 2).trans (((dats m (inv X U G A) (aft X U G A) 0 c).arrAt_in 2 rfl _).trans ((A_eq m _ _ c 2).trans (V_main_arg2 m c))),
     ((h.1 c).1 3).trans (((dats m (inv X U G A) (aft X U G A) 0 c).arrAt_in 3 rfl _).trans ((A_eq m _ _ c 3).trans (V_main_arg3 m c)))⟩)
    (run_exact m ρ (inv X U G A) (aft X U G A) (fun c t s h => steps hX hU hG hA c t s h) (fun c t s h h9 => last_block X U G A c t s h h9))

end Cert.KernelIdeal.Value

end
-- ==== Proof.ReferenceIdeal.Step.lean ====
module

public import proofs.«01_k».proof.Proof.Gen.ReferenceIdeal.Run

@[expose] public section

set_option maxRecDepth 16384

noncomputable section

namespace Cert.ReferenceIdeal.Step

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## One step of the reference, of the arrays it is given -/

def product (x : FVec F S1024x8192 .f32) (U : FVec F S8192x64 .f32) : FVec F S1024x64 .f32 :=
  Host.dotGeneral dot_S1024x8192_S8192x64_S1024x64_1_0_0_1_n_n none x U

/-- The gradient of the energy times the sign of the flip. -/
def logits (z : FVec F S1024x64 .f32) (x : FVec F S1024x8192 .f32) (U : FVec F S8192x64 .f32) : FVec F S1024x8192 .f32 :=
  mulf (Host.dotGeneral dot_S1024x64_S8192x64_S1024x8192_1_1_0_0_n_n none (mulf (broadcastInDim S1024x64 ![0] bcast_S1024_S1024x64_0 (broadcastInDim S1024 ![] bcast_S_S1024 (constant S_ .f32 0x3F800000#32))) (mulf (broadcastInDim S1024x64 ![] bcast_S_S1024x64 (constant S_ .f32 0x40000000#32)) z)) U) (Host.negf (subf (mulf (broadcastInDim S1024x8192 ![] bcast_S_S1024x8192 (constant S_ .f32 0x40000000#32)) x) (broadcastInDim S1024x8192 ![] bcast_S_S1024x8192 (constant S_ .f32 0x3F800000#32))))

def shifted (w : FVec F S1024x8192 .f32) : FVec F S1024x8192 .f32 :=
  subf w (broadcastInDim S1024x8192 ![0, 1] bcast_S1024x1_S1024x8192_0_1 (broadcastInDim S1024x1 ![0] bcast_S1024_S1024x1_0 (Host.reduce FloatOps.maximumf w (constant S_ .f32 0xFF800000#32) reducesTo_S1024x8192_S1024_d1 h_S_)))

def logProb (s : FVec F S1024x8192 .f32) : FVec F S1024x8192 .f32 :=
  subf s (broadcastInDim S1024x8192 ![0, 1] bcast_S1024x1_S1024x8192_0_1 (Host.log (broadcastInDim S1024x1 ![0] bcast_S1024_S1024x1_0 (Host.reduceAdd (Host.exp s) (constant S_ .f32 0x00000000#32) reducesTo_S1024x8192_S1024_d1 h_S_))))

def scores (g : FVec F S2x1024x8192 .f32) (w : FVec F S1024x8192 .f32) : FVec F S2x1024x8192 .f32 :=
  addf g (broadcastInDim S2x1024x8192 ![0, 1, 2] bcast_S1x1024x8192_S2x1024x8192_0_1_2 (broadcastInDim S1x1024x8192 ![1, 2] bcast_S1024x8192_S1x1024x8192_1_2 w))

def coordinates : IVec S8192 32 := iotaInDim S8192 32 0

/-- The first coordinate of the highest score. -/
def drawn (v : FVec F S2x1024x8192 .f32) : IVec S2x1024 32 :=
  Host.reduce IntOp.minsi (select (cmpf .oeq v (broadcastInDim S2x1024x8192 ![0, 1, 2] bcast_S2x1024x1_S2x1024x8192_0_1_2 (broadcastInDim S2x1024x1 ![0, 1] bcast_S2x1024_S2x1024x1_0_1 (Host.reduce FloatOps.maximumf v (constant S_ .f32 0xFF800000#32) reducesTo_S2x1024x8192_S2x1024_d2 h_S_)))) (broadcastInDim S2x1024x8192 ![2] bcast_S8192_S2x1024x8192_2 coordinates) (broadcastInDim S2x1024x8192 ![] bcast_S_S2x1024x8192 (constantI S_ 32 8192#32))) (constantI S_ 32 2147483647#32) reducesTo_S2x1024x8192_S2x1024_d2 h_S_

/-- The coordinates drawn, marked. -/
def marked (v : FVec F S2x1024x8192 .f32) : FVec F S2x1024x8192 .f32 :=
  uitofp .f32 (cmpi .eq (broadcastInDim S2x1024x8192 ![0, 1, 2] bcast_S2x1024x1_S2x1024x8192_0_1_2 (broadcastInDim S2x1024x1 ![0, 1] bcast_S2x1024_S2x1024x1_0_1 (drawn v))) (broadcastInDim S2x1024x8192 ![0, 1, 2] bcast_S1x1x8192_S2x1024x8192_0_1_2 (broadcastInDim S1x1x8192 ![2] bcast_S8192_S1x1x8192_2 coordinates)))

/-- The coordinates drawn an odd number of times. -/
def changes (k : FVec F S2x1024x8192 .f32) : FVec F S1024x8192 .f32 :=
  sitofp .f32 (Host.remsi (fptosi 32 (Host.reduceAdd k (constant S_ .f32 0x00000000#32) reducesTo_S2x1024x8192_S1024x8192_d0 h_S_)) (broadcastInDim S1024x8192 ![] bcast_S_S1024x8192 (constantI S_ 32 2#32)))

def proposal (x ch : FVec F S1024x8192 .f32) : FVec F S1024x8192 .f32 :=
  addf (mulf (subf (broadcastInDim S1024x8192 ![] bcast_S_S1024x8192 (constant S_ .f32 0x3F800000#32)) x) ch) (mulf x (subf (broadcastInDim S1024x8192 ![] bcast_S_S1024x8192 (constant S_ .f32 0x3F800000#32)) ch))

/-- The energy. -/
def energy (z : FVec F S1024x64 .f32) : FVec F S1024 .f32 := Host.reduceAdd (mulf z z) (constant S_ .f32 0x00000000#32) reducesTo_S1024x64_S1024_d1 h_S_

/-- The log-probability of the draws marked. -/
def drawProb (k : FVec F S2x1024x8192 .f32) (l : FVec F S1024x8192 .f32) : FVec F S1024 .f32 :=
  Host.reduceAdd (Host.reduceAdd (mulf k (broadcastInDim S2x1024x8192 ![0, 1, 2] bcast_S1x1024x8192_S2x1024x8192_0_1_2 (broadcastInDim S1x1024x8192 ![1, 2] bcast_S1024x8192_S1x1024x8192_1_2 l))) (constant S_ .f32 0x00000000#32) reducesTo_S2x1024x8192_S2x1024_d2 h_S_) (constant S_ .f32 0x00000000#32) reducesTo_S2x1024_S1024_d0 h_S_

/-- Whether the move is taken. -/
def accepted (zd z : FVec F S1024x64 .f32) (rev fwd : FVec F S1024 .f32) (u : FVec F S1024 .f32) : FVec F S1024 .f32 :=
  uitofp .f32 (cmpf .ogt (Host.exp (subf (addf (subf (energy zd) (energy z)) rev) fwd)) u)

def blended (x xd : FVec F S1024x8192 .f32) (a : FVec F S1024 .f32) : FVec F S1024x8192 .f32 :=
  addf (mulf xd (broadcastInDim S1024x8192 ![0, 1] bcast_S1024x1_S1024x8192_0_1 (broadcastInDim S1024x1 ![0] bcast_S1024_S1024x1_0 a))) (mulf x (broadcastInDim S1024x8192 ![0, 1] bcast_S1024x1_S1024x8192_0_1 (subf (broadcastInDim S1024x1 ![] bcast_S_S1024x1 (constant S_ .f32 0x3F800000#32)) (broadcastInDim S1024x1 ![0] bcast_S1024_S1024x1_0 a))))

def forward (x : FVec F S1024x8192 .f32) (U : FVec F S8192x64 .f32) : FVec F S1024x8192 .f32 := logits (product x U) x U
def draws (x : FVec F S1024x8192 .f32) (U : FVec F S8192x64 .f32) (g : FVec F S2x1024x8192 .f32) : FVec F S2x1024x8192 .f32 := marked (scores g (forward x U))
def proposed (x : FVec F S1024x8192 .f32) (U : FVec F S8192x64 .f32) (g : FVec F S2x1024x8192 .f32) : FVec F S1024x8192 .f32 := proposal x (changes (draws x U g))
def accept (x : FVec F S1024x8192 .f32) (U : FVec F S8192x64 .f32) (g : FVec F S2x1024x8192 .f32) (u : FVec F S1024 .f32) : FVec F S1024 .f32 :=
  accepted (product (proposed x U g) U) (product x U) (drawProb (draws x U g) (logProb (shifted (forward (proposed x U g) U))))
    (drawProb (draws x U g) (logProb (shifted (forward x U)))) u
/-- The state after one step. -/
def next (x : FVec F S1024x8192 .f32) (U : FVec F S8192x64 .f32) (g : FVec F S2x1024x8192 .f32) (u : FVec F S1024 .f32) : FVec F S1024x8192 .f32 :=
  blended x (proposed x U g) (accept x U g u)

/-! ## The generated results are four such steps -/

variable (V : Valuation τ sig (Elt F))

abbrev state0 : FVec F S1024x8192 .f32 := V (Proc.devRef .tc main_arg0)
abbrev model : FVec F S8192x64 .f32 := V (Proc.devRef .tc main_arg1)
abbrev noise : FVec F S4x2x1024x8192 .f32 := V (Proc.devRef .tc main_arg2)
abbrev uniform : FVec F S1024x4 .f32 := V (Proc.devRef .tc main_arg3)

abbrev noise0 : FVec F S2x1024x8192 .f32 := (shapeCast _ (extractStridedSlice S1x2x1024x8192 ![0, 0, 0, 0] (noise V) slices_S4x2x1024x8192_S1x2x1024x8192_0_0_0_0) shapeCasts_S1x2x1024x8192_S2x1024x8192)
abbrev uniform0 : FVec F S1024 .f32 := (shapeCast _ (extractStridedSlice S1024x1 ![0, 0] (uniform V) slices_S1024x4_S1024x1_0_0) shapeCasts_S1024x1_S1024)
theorem forward0 : res_main_v16 V = forward (state0 V) (model V) := rfl
theorem scores0 : res_main_v31 V = scores (noise0 V) (res_main_v16 V) := rfl
theorem draws0 : res_main_v45 V = draws (state0 V) (model V) (noise0 V) := by
  unfold draws; rw [← forward0, ← scores0]; rfl
theorem proposed0 : res_main_v62 V = proposed (state0 V) (model V) (noise0 V) := by
  unfold proposed; rw [← draws0]; rfl
theorem reverse0 : res_main_v78 V = forward (res_main_v62 V) (model V) := rfl
theorem accept0 : res_main_v107 V = accept (state0 V) (model V) (noise0 V) (uniform0 V) := by
  unfold accept; rw [← proposed0, ← draws0, ← forward0, ← reverse0]; rfl
theorem next0 : res_main_v116 V = next (state0 V) (model V) (noise0 V) (uniform0 V) := by
  unfold next; rw [← proposed0, ← accept0]; rfl

abbrev noise1 : FVec F S2x1024x8192 .f32 := (shapeCast _ (extractStridedSlice S1x2x1024x8192 ![1, 0, 0, 0] (noise V) slices_S4x2x1024x8192_S1x2x1024x8192_1_0_0_0) shapeCasts_S1x2x1024x8192_S2x1024x8192)
abbrev uniform1 : FVec F S1024 .f32 := (shapeCast _ (extractStridedSlice S1024x1 ![0, 1] (uniform V) slices_S1024x4_S1024x1_0_1) shapeCasts_S1024x1_S1024)
theorem forward1 : res_main_v132 V = forward (res_main_v116 V) (model V) := rfl
theorem scores1 : res_main_v147 V = scores (noise1 V) (res_main_v132 V) := rfl
theorem draws1 : res_main_v161 V = draws (res_main_v116 V) (model V) (noise1 V) := by
  unfold draws; rw [← forward1, ← scores1]; rfl
theorem proposed1 : res_main_v178 V = proposed (res_main_v116 V) (model V) (noise1 V) := by
  unfold proposed; rw [← draws1]; rfl
theorem reverse1 : res_main_v194 V = forward (res_main_v178 V) (model V) := rfl
theorem accept1 : res_main_v223 V = accept (res_main_v116 V) (model V) (noise1 V) (uniform1 V) := by
  unfold accept; rw [← proposed1, ← draws1, ← forward1, ← reverse1]; rfl
theorem next1 : res_main_v232 V = next (res_main_v116 V) (model V) (noise1 V) (uniform1 V) := by
  unfold next; rw [← proposed1, ← accept1]; rfl

abbrev noise2 : FVec F S2x1024x8192 .f32 := (shapeCast _ (extractStridedSlice S1x2x1024x8192 ![2, 0, 0, 0] (noise V) slices_S4x2x1024x8192_S1x2x1024x8192_2_0_0_0) shapeCasts_S1x2x1024x8192_S2x1024x8192)
abbrev uniform2 : FVec F S1024 .f32 := (shapeCast _ (extractStridedSlice S1024x1 ![0, 2] (uniform V) slices_S1024x4_S1024x1_0_2) shapeCasts_S1024x1_S1024)
theorem forward2 : res_main_v248 V = forward (res_main_v232 V) (model V) := rfl
theorem scores2 : res_main_v263 V = scores (noise2 V) (res_main_v248 V) := rfl
theorem draws2 : res_main_v277 V = draws (res_main_v232 V) (model V) (noise2 V) := by
  unfold draws; rw [← forward2, ← scores2]; rfl
theorem proposed2 : res_main_v294 V = proposed (res_main_v232 V) (model V) (noise2 V) := by
  unfold proposed; rw [← draws2]; rfl
theorem reverse2 : res_main_v310 V = forward (res_main_v294 V) (model V) := rfl
theorem accept2 : res_main_v339 V = accept (res_main_v232 V) (model V) (noise2 V) (uniform2 V) := by
  unfold accept; rw [← proposed2, ← draws2, ← forward2, ← reverse2]; rfl
theorem next2 : res_main_v348 V = next (res_main_v232 V) (model V) (noise2 V) (uniform2 V) := by
  unfold next; rw [← proposed2, ← accept2]; rfl

abbrev noise3 : FVec F S2x1024x8192 .f32 := (shapeCast _ (extractStridedSlice S1x2x1024x8192 ![3, 0, 0, 0] (noise V) slices_S4x2x1024x8192_S1x2x1024x8192_3_0_0_0) shapeCasts_S1x2x1024x8192_S2x1024x8192)
abbrev uniform3 : FVec F S1024 .f32 := (shapeCast _ (extractStridedSlice S1024x1 ![0, 3] (uniform V) slices_S1024x4_S1024x1_0_3) shapeCasts_S1024x1_S1024)
theorem forward3 : res_main_v364 V = forward (res_main_v348 V) (model V) := rfl
theorem scores3 : res_main_v379 V = scores (noise3 V) (res_main_v364 V) := rfl
theorem draws3 : res_main_v393 V = draws (res_main_v348 V) (model V) (noise3 V) := by
  unfold draws; rw [← forward3, ← scores3]; rfl
theorem proposed3 : res_main_v410 V = proposed (res_main_v348 V) (model V) (noise3 V) := by
  unfold proposed; rw [← draws3]; rfl
theorem reverse3 : res_main_v426 V = forward (res_main_v410 V) (model V) := rfl
theorem accept3 : res_main_v455 V = accept (res_main_v348 V) (model V) (noise3 V) (uniform3 V) := by
  unfold accept; rw [← proposed3, ← draws3, ← forward3, ← reverse3]; rfl
theorem next3 : addf (mulf (res_main_v410 V) (broadcastInDim S1024x8192 ![0, 1] bcast_S1024x1_S1024x8192_0_1 (broadcastInDim S1024x1 ![0] bcast_S1024_S1024x1_0 (res_main_v455 V)))) (mulf (res_main_v348 V) (broadcastInDim S1024x8192 ![0, 1] bcast_S1024x1_S1024x8192_0_1 (subf (broadcastInDim S1024x1 ![] bcast_S_S1024x1 (constant S_ .f32 0x3F800000#32)) (broadcastInDim S1024x1 ![0] bcast_S1024_S1024x1_0 (res_main_v455 V))))) = next (res_main_v348 V) (model V) (noise3 V) (uniform3 V) := by
  unfold next; rw [← proposed3, ← accept3]; rfl

end Cert.ReferenceIdeal.Step

end
-- ==== Proof.ReferenceIdeal.Rows.lean ====
module

public import proofs.«01_k».proof.Proof.ReferenceIdeal.Step
public import proofs.«01_k».proof.Proof.Chain

@[expose] public section

set_option maxRecDepth 16384

noncomputable section

namespace Cert.ReferenceIdeal.Rows

open Cert.ReferenceIdeal Cert.ReferenceIdeal.Gen Cert.ReferenceIdeal.Value Cert.ReferenceIdeal.Step Idealize.ShloMosaic Idealize.ShloMosaic.StableHlo Idealize.ShloMosaic.TcCoe Idealize.ShloMosaic.Tactic

/-! ## The reference's step at one row, over real numbers -/

theorem uitofp_bit (p : Prop) [Decidable p] : FloatOps.uitofp (F := Ideal) .f32 (BitVec.ofBool (decide p)) = (((if p then 1 else 0 : ℝ)) : EReal) := by
  by_cases h : p
  · simp only [h, decide_true, if_true]
    show ((((1 : ℕ) : ℝ)) : EReal) = _
    norm_num
  · simp only [h, decide_false, if_false]
    show ((((0 : ℕ) : ℝ)) : EReal) = _
    norm_num

/-- A number of draws, made a word, its parity taken and made a number again. -/
theorem parity (n : ℕ) (hn : n < 3) :
    FloatOps.sitofp (F := Ideal) .f32 (IntOp.remsi ArithUnit.host (FloatOps.fptosi (F := Ideal) (φ := .f32) 32 (((n : ℝ)) : EReal)) 2#32) = (((n % 2 : ℕ) : ℝ) : EReal) := by
  have h : FloatOps.fptosi (F := Ideal) (φ := .f32) 32 (((n : ℝ)) : EReal) = BitVec.ofNat 32 n := by
    show Ideal.fptosi 32 (((n : ℝ)) : EReal) = _
    rw [Ideal.fptosi, Ideal.toIntClamped_coe, if_pos (Nat.cast_nonneg n), Int.floor_natCast]
    interval_cases n <;> rfl
  rw [h]
  show (((IntOp.remsi ArithUnit.host (BitVec.ofNat 32 n) 2#32).toInt : ℝ) : EReal) = _
  have h' : (IntOp.remsi ArithUnit.host (BitVec.ofNat 32 n) 2#32).toInt = ((n % 2 : ℕ) : ℤ) := by
    interval_cases n <;> rfl
  rw [h']
  norm_cast

section
variable {b : Fin 1024} {U : Fin 8192 → Fin 64 → ℝ} {X : Fin 8192 → ℝ}

theorem product_at {x : FVec Ideal S1024x8192 .f32} {u : FVec Ideal S8192x64 .f32} (hx : ∀ d, x (ix2 b d) = (X d : EReal))
    (hu : ∀ d r, u (ix2 d r) = (U d r : EReal)) (r : Fin 64) : product x u (ix2 b r) = (Chain.prod U X r : EReal) := by
  pointwise [product]
  simp only [hx, hu, ← EReal.coe_mul, Chain.coe_sum]
  rfl

theorem logits_at {z : FVec Ideal S1024x64 .f32} {x : FVec Ideal S1024x8192 .f32} {u : FVec Ideal S8192x64 .f32} {Z : Fin 64 → ℝ}
    (hz : ∀ r, z (ix2 b r) = (Z r : EReal)) (hx : ∀ d, x (ix2 b d) = (X d : EReal)) (hu : ∀ d r, u (ix2 d r) = (U d r : EReal)) (d : Fin 8192) :
    logits z x u (ix2 b d) = (Chain.resp U Z X d : EReal) := by
  pointwise [logits]
  simp only [hz, hx, hu, Chain.ofBits_two, ← EReal.coe_mul, Chain.coe_sum]
  rw [← EReal.coe_one, ← EReal.coe_sub, ← EReal.coe_neg, ← EReal.coe_mul]
  congr 1
  unfold Chain.resp
  rw [show ∑ r, 2 * Z r * U d r = 2 * ∑ r, Z r * U d r by rw [Finset.mul_sum]; exact Finset.sum_congr rfl fun r _ => by ring]
  ring

theorem logProb_at {w : FVec Ideal S1024x8192 .f32} {W : Fin 8192 → ℝ} (hw : ∀ d, w (ix2 b d) = (W d : EReal)) (d : Fin 8192) :
    logProb (shifted w) (ix2 b d) = ((W d - Chain.lse W : ℝ) : EReal) := by
  have hs : ∀ d, shifted w (ix2 b d) = ((W d - W (Chain.pick W) : ℝ) : EReal) := fun d => by
    pointwise [shifted]
    simp only [hw, Chain.ofBits_bot]
    rw [(Chain.fold_pick W).1, ← EReal.coe_sub]
  pointwise [logProb]
  simp only [hs, Ideal.exp_coe, Chain.coe_sum]
  have hpos : 0 < ∑ d, Real.exp (W d - W (Chain.pick W)) := Finset.sum_pos (fun d _ => Real.exp_pos _) ⟨0, Finset.mem_univ _⟩
  rw [Ideal.log_coe, if_neg (not_le.2 hpos), ← EReal.coe_sub]
  congr 1
  have h : ∑ d, Real.exp (W d - W (Chain.pick W)) = (∑ d, Real.exp (W d)) * Real.exp (-W (Chain.pick W)) := by
    rw [Finset.sum_mul]
    exact Finset.sum_congr rfl fun d _ => by rw [← Real.exp_add]; rfl
  have hpos' : 0 < ∑ d, Real.exp (W d) := Finset.sum_pos (fun d _ => Real.exp_pos _) ⟨0, Finset.mem_univ _⟩
  rw [h, Real.log_mul hpos'.ne' (Real.exp_pos _).ne', Real.log_exp]
  unfold Chain.lse
  ring

/-- The draw `s` from the logits `w` with the noise `g`. -/
theorem marked_at {w : FVec Ideal S1024x8192 .f32} {g : FVec Ideal S2x1024x8192 .f32} {W : Fin 8192 → ℝ} {G : Fin 2 → Fin 8192 → ℝ}
    (hw : ∀ d, w (ix2 b d) = (W d : EReal)) (hg : ∀ s d, g (ix3 s b d) = (G s d : EReal)) (s : Fin 2) (d : Fin 8192) :
    marked (scores g w) (ix3 s b d) = (Chain.ind d (Chain.pick fun d => W d + G s d) : EReal) := by
  have hs : ∀ d, scores g w (ix3 s b d) = ((W d + G s d : ℝ) : EReal) := fun d => by
    pointwise [scores]
    rw [hw, hg, ← EReal.coe_add, add_comm]
  have hd : drawn (scores g w) (ix2 s b) = BitVec.ofNat 32 (Chain.pick fun d => W d + G s d).val := by
    pointwise [drawn, coordinates]
    simp only [hs, Chain.ofBits_bot]
    rw [(Chain.fold_pick fun d => W d + G s d).1]
    exact (Chain.fold_pick fun d => W d + G s d).2
  pointwise [marked, coordinates]
  rw [hd]
  have h : IntOp.cmpi CmpIPredicate.eq (BitVec.ofNat 32 (Chain.pick fun d => W d + G s d).val) (BitVec.ofNat 32 d.val)
      = BitVec.ofBool (decide (d = Chain.pick fun d => W d + G s d)) := by
    have e : (BitVec.ofNat 32 (Chain.pick fun d => W d + G s d).val == BitVec.ofNat 32 d.val) = decide (d = Chain.pick fun d => W d + G s d) := by
      rw [beq_eq_decide, decide_eq_decide, Chain.ofNat_eq (by omega) (by omega), Fin.ext_iff, eq_comm]
    exact congrArg BitVec.ofBool e
  rw [h, uitofp_bit]
  rfl

theorem changes_at {k : FVec Ideal S2x1024x8192 .f32} {i j : Fin 8192} (h0 : ∀ d, k (ix3 0 b d) = (Chain.ind d i : EReal))
    (h1 : ∀ d, k (ix3 1 b d) = (Chain.ind d j : EReal)) (d : Fin 8192) : changes k (ix2 b d) = (Chain.flip i j d : EReal) := by
  pointwise [changes]
  rw [Fin.sum_univ_two, h0, h1, ← EReal.coe_add]
  have e : ∃ n : ℕ, n < 3 ∧ Chain.ind d i + Chain.ind d j = (n : ℝ) ∧ Chain.flip i j d = ((n % 2 : ℕ) : ℝ) := by
    have one : ∀ q : Fin 8192, Chain.ind d q = 0 ∨ Chain.ind d q = 1 := fun q => by
      unfold Chain.ind
      split
      · exact Or.inr rfl
      · exact Or.inl rfl
    unfold Chain.flip
    rcases one i with hi | hi <;> rcases one j with hj | hj <;> rw [hi, hj]
    · exact ⟨0, by omega, by norm_num, by norm_num⟩
    · exact ⟨1, by omega, by norm_num, by norm_num⟩
    · exact ⟨1, by omega, by norm_num, by norm_num⟩
    · exact ⟨2, by omega, by norm_num, by norm_num⟩
  obtain ⟨n, hn, e1, e2⟩ := e
  rw [e1, e2]
  exact parity n hn

theorem proposal_at {x c : FVec Ideal S1024x8192 .f32} {i j : Fin 8192} (hx : ∀ d, x (ix2 b d) = (X d : EReal))
    (hc : ∀ d, c (ix2 b d) = (Chain.flip i j d : EReal)) (d : Fin 8192) : proposal x c (ix2 b d) = (Chain.moved X i j 1 d : EReal) := by
  pointwise [proposal]
  rw [hx, hc, ← EReal.coe_one, ← EReal.coe_sub, ← EReal.coe_sub, ← EReal.coe_mul, ← EReal.coe_mul, ← EReal.coe_add]
  congr 1
  unfold Chain.moved
  ring

theorem drawProb_at {k : FVec Ideal S2x1024x8192 .f32} {l : FVec Ideal S1024x8192 .f32} {i j : Fin 8192} {W : Fin 8192 → ℝ}
    (h0 : ∀ d, k (ix3 0 b d) = (Chain.ind d i : EReal)) (h1 : ∀ d, k (ix3 1 b d) = (Chain.ind d j : EReal))
    (hl : ∀ d, l (ix2 b d) = ((W d - Chain.lse W : ℝ) : EReal)) : drawProb k l (ix1 b) = (Chain.logp W i j : EReal) := by
  pointwise [drawProb]
  rw [Fin.sum_univ_two]
  simp only [h0, h1, hl, ← EReal.coe_mul, Chain.coe_sum, ← EReal.coe_add]
  congr 1
  have e : ∀ q, ∑ d, Chain.ind d q * (W d - Chain.lse W) = W q - Chain.lse W := fun q => by
    rw [← Chain.sum_ind (fun d => W d - Chain.lse W) q]
    exact Finset.sum_congr rfl fun d _ => mul_comm _ _
  rw [e, e]
  unfold Chain.logp
  ring

theorem accepted_at {z zd : FVec Ideal S1024x64 .f32} {p q u : FVec Ideal S1024 .f32} {i j : Fin 8192}
    (hz : ∀ r, z (ix2 b r) = (Chain.prod U X r : EReal)) (hzd : ∀ r, zd (ix2 b r) = (Chain.prod U (Chain.moved X i j 1) r : EReal))
    (hp : p (ix1 b) = (Chain.logp (Chain.logit U (Chain.moved X i j 1)) i j : EReal)) (hq : q (ix1 b) = (Chain.logp (Chain.logit U X) i j : EReal)) :
    accepted zd z p q u (ix1 b) = (Chain.taken U X i j (u (ix1 b)) : EReal) := by
  pointwise [accepted, energy]
  simp only [hz, hzd, hp, hq, ← EReal.coe_mul, Chain.coe_sum, ← EReal.coe_sub, ← EReal.coe_add, Ideal.exp_coe]
  exact uitofp_bit _

theorem blended_at {x xd : FVec Ideal S1024x8192 .f32} {a : FVec Ideal S1024 .f32} {i j : Fin 8192} {t : ℝ} (hx : ∀ d, x (ix2 b d) = (X d : EReal))
    (hxd : ∀ d, xd (ix2 b d) = (Chain.moved X i j 1 d : EReal)) (ha : a (ix1 b) = (t : EReal)) (d : Fin 8192) :
    blended x xd a (ix2 b d) = (Chain.moved X i j t d : EReal) := by
  pointwise [blended]
  rw [hx, hxd, ha, ← EReal.coe_one, ← EReal.coe_sub, ← EReal.coe_mul, ← EReal.coe_mul, ← EReal.coe_add]
  congr 1
  unfold Chain.moved
  ring

/-- The reference's step is the chain's. -/
theorem next_at {x : FVec Ideal S1024x8192 .f32} {u : FVec Ideal S8192x64 .f32} {g : FVec Ideal S2x1024x8192 .f32} {a : FVec Ideal S1024 .f32}
    {G : Fin 2 → Fin 8192 → ℝ} (hx : ∀ d, x (ix2 b d) = (X d : EReal)) (hu : ∀ d r, u (ix2 d r) = (U d r : EReal))
    (hg : ∀ s d, g (ix3 s b d) = (G s d : EReal)) (d : Fin 8192) :
    next x u g a (ix2 b d) = (Chain.step U X G (a (ix1 b)) d : EReal) := by
  have hf : ∀ {y : FVec Ideal S1024x8192 .f32} {Y : Fin 8192 → ℝ}, (∀ d, y (ix2 b d) = (Y d : EReal)) → ∀ d, forward y u (ix2 b d) = (Chain.logit U Y d : EReal) :=
    fun hy => logits_at (product_at hy hu) hy hu
  have hk : ∀ s d, draws x u g (ix3 s b d) = (Chain.ind d (Chain.draw U X (G s)) : EReal) := marked_at (hf hx) hg
  have hxd : ∀ d, proposed x u g (ix2 b d) = (Chain.moved X (Chain.draw U X (G 0)) (Chain.draw U X (G 1)) 1 d : EReal) :=
    proposal_at hx (changes_at (hk 0) (hk 1))
  exact blended_at hx hxd (accepted_at (product_at hx hu) (product_at hxd hu) (drawProb_at (hk 0) (hk 1) (logProb_at (hf hxd)))
    (drawProb_at (hk 0) (hk 1) (logProb_at (hf hx)))) d
end

/-! ## The reference's run over real numbers -/

variable (m : (ℓ : Loc nD τ sig) → Buf (Elt Ideal) ℓ) (ρ : Dev nD → PrngReg)
  (X : Dev nD → Fin 1024 → Fin 8192 → ℝ) (U : Dev nD → Fin 8192 → Fin 64 → ℝ) (G : Dev nD → Fin 1024 → Fin 4 → Fin 2 → Fin 8192 → ℝ)
  (A : Dev nD → Fin 1024 → Fin 4 → EReal)

section
variable {m X U G A}
variable (hX : ∀ (c : Dev nD) b d, m ((c.tc : Thread nD τ).loc main_arg0) (ix2 b d) = (X c b d : EReal))
  (hU : ∀ (c : Dev nD) d r, m ((c.tc : Thread nD τ).loc main_arg1) (ix2 d r) = (U c d r : EReal))
  (hG : ∀ (c : Dev nD) t j b d, m ((c.tc : Thread nD τ).loc main_arg2) (ix4 t j b d) = (G c b t j d : EReal))
  (hA : ∀ (c : Dev nD) b t, m ((c.tc : Thread nD τ).loc main_arg3) (ix2 b t) = A c b t)
include hX hU hG hA

/-- One step of the reference from the chains' states after `t` steps. -/
theorem step_at (c : Dev nD) (b : Fin 1024) (t : Fin 4) {x : FVec Ideal S1024x8192 .f32} {g : FVec Ideal S2x1024x8192 .f32} {a : FVec Ideal S1024 .f32}
    (hx : ∀ d, x (ix2 b d) = (Chain.chain (U c) (X c b) (G c b) (A c b) t.val d : EReal))
    (hg : ∀ s d, g (ix3 s b d) = noise (launchContents m c) (ix4 t s b d)) (ha : a (ix1 b) = uniform (launchContents m c) (ix2 b t)) (d : Fin 8192) :
    next x (model (launchContents m c)) g a (ix2 b d) = (Chain.chain (U c) (X c b) (G c b) (A c b) (t.val + 1) d : EReal) := by
  rw [next_at hx (fun d r => hU c d r) (fun s d => (hg s d).trans (hG c t s b d)) d, ha, Chain.chain_succ]
  exact congrArg (fun u => ((Chain.step (U c) _ (G c b t) u d : ℝ) : EReal)) (hA c b t)

theorem result_at (c : Dev nD) (b : Fin 1024) (d : Fin 8192) :
    next (res_main_v348 (launchContents m c)) (model (launchContents m c)) (noise3 (launchContents m c)) (uniform3 (launchContents m c)) (ix2 b d)
      = (Chain.chain (U c) (X c b) (G c b) (A c b) 4 d : EReal) := by
  have s0 := step_at hX hU hG hA c b 0 (x := state0 (launchContents m c)) (g := noise0 (launchContents m c)) (a := uniform0 (launchContents m c))
    (fun d => hX c b d) (fun s d => by pointwise [noise0]) (by pointwise [uniform0])
  rw [← next0] at s0
  have s1 := step_at hX hU hG hA c b 1 (g := noise1 (launchContents m c)) (a := uniform1 (launchContents m c)) s0 (fun s d => by pointwise [noise1]) (by pointwise [uniform1])
  rw [← next1] at s1
  have s2 := step_at hX hU hG hA c b 2 (g := noise2 (launchContents m c)) (a := uniform2 (launchContents m c)) s1 (fun s d => by pointwise [noise2]) (by pointwise [uniform2])
  rw [← next2] at s2
  exact step_at hX hU hG hA c b 3 (g := noise3 (launchContents m c)) (a := uniform3 (launchContents m c)) s2 (fun s d => by pointwise [noise3]) (by pointwise [uniform3]) d
end

/-- The result: the state of every chain after four steps. -/
def result (c : Dev nD) : Vec Ideal S1024x8192 .f32 := fun i => (Chain.chain (U c) (X c (i 0)) (G c (i 0)) (A c (i 0)) 4 (i 1) : EReal)

/-- Every run of the reference ends, the result the chains' states after four steps and the arguments as they were. -/
theorem run (hX : ∀ (c : Dev nD) b d, m ((c.tc : Thread nD τ).loc main_arg0) (ix2 b d) = (X c b d : EReal))
    (hU : ∀ (c : Dev nD) d r, m ((c.tc : Thread nD τ).loc main_arg1) (ix2 d r) = (U c d r : EReal))
    (hG : ∀ (c : Dev nD) t j b d, m ((c.tc : Thread nD τ).loc main_arg2) (ix4 t j b d) = (G c b t j d : EReal))
    (hA : ∀ (c : Dev nD) b t, m ((c.tc : Thread nD τ).loc main_arg3) (ix2 b t) = A c b t) :
    θ_run defs (onTc (τ := τ) (main (F := Ideal))) ⟨m, fun _ => 0, ρ⟩ (fun r => ∀ c : Dev nD,
      r.2.mem ((c.tc : Thread nD τ).loc main_v464) = result X U G A c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨((h c).1.trans (next3 _)).trans ?_, (h c).2⟩) (Cert.ReferenceIdeal.Value.run m ρ)
  funext i
  obtain ⟨b, d, rfl⟩ : ∃ (b : Fin 1024) (d : Fin 8192), i = ix2 b d := ⟨i 0, i 1, by funext a; fin_cases a <;> rfl⟩
  exact result_at hX hU hG hA c b d

/-- Every run of the reference ends, the arguments as they were and every semaphore at zero. -/
theorem ends : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems (by decide) r.2⟩) (Cert.ReferenceIdeal.Value.run m ρ)

end Cert.ReferenceIdeal.Rows

end
-- ==== Proof.lean ====
module

public import proofs.«01_k».proof.Defs
public import proofs.«01_k».proof.Proof.Finite
public import proofs.«01_k».proof.Proof.Kernel.Run
public import proofs.«01_k».proof.Proof.KernelIdeal.Value
public import proofs.«01_k».proof.Proof.ReferenceIdeal.Rows

@[expose] public section

noncomputable section

namespace Cert.Proof

open Idealize.ShloMosaic Idealize.SL.Sem

/-- The constant the kernel masks unwanted positions with, as a number and as minus infinity. -/
theorem preserves : Cert.preserves_Kernel_KernelIdeal :=
  IdealRules.named_const.statement Cert.KernelIdeal.κ "mask" .f32 0xF149F2CA#32 ⊥ rfl

section
variable [hp : Cert.Pre_finite.Facts]
  (m : (ℓ : Loc Cert.KernelIdeal.nD Cert.KernelIdeal.τ Cert.KernelIdeal.sig) → Buf (Elt Ideal) ℓ)

/-- The arguments as the memory holds them. -/
abbrev arg0 (c : Dev Cert.KernelIdeal.nD) : FVec Ideal Cert.Pre_finite.S1024x8192 .f32 :=
  m ((c.tc : Thread Cert.KernelIdeal.nD Cert.KernelIdeal.τ).loc Cert.KernelIdeal.main_arg0)
abbrev arg1 (c : Dev Cert.KernelIdeal.nD) : FVec Ideal Cert.Pre_finite.S8192x64 .f32 :=
  m ((c.tc : Thread Cert.KernelIdeal.nD Cert.KernelIdeal.τ).loc Cert.KernelIdeal.main_arg1)
abbrev arg2 (c : Dev Cert.KernelIdeal.nD) : FVec Ideal Cert.Pre_finite.S4x2x1024x8192 .f32 :=
  m ((c.tc : Thread Cert.KernelIdeal.nD Cert.KernelIdeal.τ).loc Cert.KernelIdeal.main_arg2)
abbrev arg3 (c : Dev Cert.KernelIdeal.nD) : FVec Ideal Cert.Pre_finite.S1024x4 .f32 :=
  m ((c.tc : Thread Cert.KernelIdeal.nD Cert.KernelIdeal.τ).loc Cert.KernelIdeal.main_arg3)

/-- Where the precondition holds, three of the arguments are arrays of real numbers. -/
theorem reals (h : Cert.Pre_KernelIdeal_finite m) :
    ∃ (X : Dev Cert.KernelIdeal.nD → Fin 1024 → Fin 8192 → ℝ) (U : Dev Cert.KernelIdeal.nD → Fin 8192 → Fin 64 → ℝ)
      (G : Dev Cert.KernelIdeal.nD → Fin 1024 → Fin 4 → Fin 2 → Fin 8192 → ℝ),
      (∀ c b d, arg0 m c (ix2 b d) = (X c b d : EReal)) ∧ (∀ c d r, arg1 m c (ix2 d r) = (U c d r : EReal))
        ∧ (∀ c t j b d, arg2 m c (ix4 t j b d) = (G c b t j d : EReal)) := by
  have hr := fun c => Cert.Pre_finite.reals (arg0 m c) (arg1 m c) (arg2 m c) (arg3 m c) (h c)
  choose X hX using fun c => (hr c).1
  choose U hU using fun c => (hr c).2.1
  choose G hG using fun c => (hr c).2.2
  exact ⟨fun c b d => X c (ix2 b d), fun c d r => U c (ix2 d r), fun c b t j d => G c (ix4 t j b d),
    fun c b d => hX c (ix2 b d), fun c d r => hU c (ix2 d r), fun c t j b d => hG c (ix4 t j b d)⟩

end

/-- From equal finite arguments the idealized kernel and the idealized reference leave equal results. -/
theorem algebraic [hp : Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre hargs
  obtain ⟨X, U, G, hX, hU, hG⟩ := reals m hpre
  have hk := Cert.KernelIdeal.Value.run m g X U G (fun c b t => arg3 m c (ix2 b t)) hX hU hG (fun c b t => rfl)
  have hr := Cert.ReferenceIdeal.Rows.run m' g' X U G (fun c b t => arg3 m c (ix2 b t))
    (fun c b d => (congrFun (hargs c).1 (ix2 b d)).trans (hX c b d))
    (fun c d r => (congrFun (hargs c).2.1 (ix2 d r)).trans (hU c d r))
    (fun c t j b d => (congrFun (hargs c).2.2.1 (ix4 t j b d)).trans (hG c t j b d))
    (fun c b t => congrFun (hargs c).2.2.2 (ix2 b t))
  exact ⟨_, hk, hr⟩

/-- Everything claimed. -/
theorem claim : Cert.Claim :=
  ⟨Cert.Kernel.Gen.facts, Cert.KernelIdeal.Gen.facts, Cert.ReferenceIdeal.Gen.facts, Cert.Pre_finite.facts,
    fun m g _ => Cert.Kernel.Body.ends m g,
    fun m g _ => Cert.KernelIdeal.Body.ends m g,
    fun m g _ => Cert.KernelIdeal.Body.ends m g,
    fun m g _ => Cert.ReferenceIdeal.Rows.ends m g,
    fun m g _ => Cert.ReferenceIdeal.Rows.ends m g,
    preserves, algebraic (hp := Cert.Pre_finite.facts)⟩

end Cert.Proof

end
